-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_apart [hPre_finite_and_apart : Cert.Pre_finite_and_apart.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_apart [hPre_finite_and_apart : Cert.Pre_finite_and_apart.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_and_apart [hKernelIdeal : Cert.KernelIdeal.Facts] [hPre_finite_and_apart : Cert.Pre_finite_and_apart.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_apart m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_and_apart [hReferenceIdeal : Cert.ReferenceIdeal.Facts] [hPre_finite_and_apart : Cert.Pre_finite_and_apart.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_apart m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "ninth" .f32 0x3DE38E39#32 ((1 / 9 : ℝ) : EReal)
  ∧ IdealRules.named_const.Statement Cert.KernelIdeal.κ "big" .f32 0x7149F2CA#32 ⊤

def algebraic_KernelIdeal_ReferenceIdeal_pre_finite_and_apart [hKernelIdeal : Cert.KernelIdeal.Facts] [hReferenceIdeal : Cert.ReferenceIdeal.Facts] [hPre_finite_and_apart : Cert.Pre_finite_and_apart.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_apart m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def algebraic_KernelIdeal_ReferenceIdeal_on_settled_pre_finite_inputs [hKernelIdeal : Cert.KernelIdeal.Facts] [hReferenceIdeal : Cert.ReferenceIdeal.Facts] [hPre_finite_inputs : Cert.Pre_finite_inputs.Facts] [hOn_settled : Cert.On_settled.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨4, ![8, 1, 56, 56]⟩ : Shape).Idx, (Cert.On_settled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 i = 1#1 → r.2.mem ((c.tc : Thread Cert.KernelIdeal.nD Cert.KernelIdeal.τ).loc Cert.KernelIdeal.main_v6) i = v0 c i)
          ∧ (∀ i : (⟨3, ![8, 3136, 112]⟩ : Shape).Idx, (Cert.On_settled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 i = 1#1 → r.2.mem ((c.tc : Thread Cert.KernelIdeal.nD Cert.KernelIdeal.τ).loc Cert.KernelIdeal.main_v7) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨4, ![8, 1, 56, 56]⟩ : Shape).Idx, (Cert.On_settled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 i = 1#1 → r.2.mem ((c.tc : Thread Cert.ReferenceIdeal.nD Cert.ReferenceIdeal.τ).loc Cert.ReferenceIdeal.main_v49) i = v0 c i)
          ∧ (∀ i : (⟨3, ![8, 3136, 112]⟩ : Shape).Idx, (Cert.On_settled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 i = 1#1 → r.2.mem ((c.tc : Thread Cert.ReferenceIdeal.nD Cert.ReferenceIdeal.τ).loc Cert.ReferenceIdeal.main_v11) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_and_apart : Cert.Pre_finite_and_apart.Facts) (hPre_finite_inputs : Cert.Pre_finite_inputs.Facts) (hOn_settled : Cert.On_settled.Facts),
    quiescent_Kernel (hKernel := hKernel)
    ∧ quiescent_KernelIdeal (hKernelIdeal := hKernelIdeal)
    ∧ quiescent_KernelIdeal_pre_finite_and_apart (hKernelIdeal := hKernelIdeal) (hPre_finite_and_apart := hPre_finite_and_apart)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_and_apart (hReferenceIdeal := hReferenceIdeal) (hPre_finite_and_apart := hPre_finite_and_apart)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_and_apart (hKernelIdeal := hKernelIdeal) (hReferenceIdeal := hReferenceIdeal) (hPre_finite_and_apart := hPre_finite_and_apart)
    ∧ algebraic_KernelIdeal_ReferenceIdeal_on_settled_pre_finite_inputs (hKernelIdeal := hKernelIdeal) (hReferenceIdeal := hReferenceIdeal) (hPre_finite_inputs := hPre_finite_inputs) (hOn_settled := hOn_settled)
-- ==== On_settled.lean ====
abbrev S1x8x1792x56x56 : Shape := ⟨5, ![1, 8, 1792, 56, 56]⟩
abbrev S112x1792 : Shape := ⟨2, ![112, 1792]⟩
abbrev S112 : Shape := ⟨1, ![112]⟩
abbrev S112x3136 : Shape := ⟨2, ![112, 3136]⟩
abbrev S8x1792x56x56 : Shape := ⟨4, ![8, 1792, 56, 56]⟩
abbrev S_ : Shape := ⟨0, ![]⟩
abbrev S112x8x56x56 : Shape := ⟨4, ![112, 8, 56, 56]⟩
abbrev S8x112x56x56 : Shape := ⟨4, ![8, 112, 56, 56]⟩
abbrev S1x112x1x1 : Shape := ⟨4, ![1, 112, 1, 1]⟩
abbrev S8x112x3136 : Shape := ⟨3, ![8, 112, 3136]⟩
abbrev S8x3136x112 : Shape := ⟨3, ![8, 3136, 112]⟩
abbrev S8x3136 : Shape := ⟨2, ![8, 3136]⟩
abbrev S8x3136x1 : Shape := ⟨3, ![8, 3136, 1]⟩
abbrev S3136 : Shape := ⟨1, ![3136]⟩
abbrev S1x3136 : Shape := ⟨2, ![1, 3136]⟩
abbrev S8x3136x3136 : Shape := ⟨3, ![8, 3136, 3136]⟩
abbrev S1x1x3136 : Shape := ⟨3, ![1, 1, 3136]⟩
abbrev S8x3136x3 : Shape := ⟨3, ![8, 3136, 3]⟩
abbrev S8x56x56 : Shape := ⟨3, ![8, 56, 56]⟩
abbrev S8x1x56x56 : Shape := ⟨4, ![8, 1, 56, 56]⟩

class Facts : Prop where
  shapeCasts_S1x8x1792x56x56_S8x1792x56x56 : S1x8x1792x56x56.ShapeCasts S8x1792x56x56
  bcast_S_S_ : S_.BroadcastsInDim S_ (![] : Fin 0 → Fin S_.rank)
  reduceWindows_S8x1792x56x56_S8x1792x56x56_w1s1p0_0_w1s1p0_0_w3s1p1_1_w3s1p1_1 : S8x1792x56x56.ReduceWindows (![1, 1, 3, 3] : Fin 4 → Nat) ![1, 1, 1, 1] ![0, 0, 1, 1] ![0, 0, 1, 1] S8x1792x56x56
  h_S_ : 0 < S_.numel
  bcast_S_S8x1792x56x56 : S_.BroadcastsInDim S8x1792x56x56 (![] : Fin 0 → Fin S8x1792x56x56.rank)
  transposes_S112x8x56x56_S8x112x56x56_1_0_2_3 : S112x8x56x56.Transposes [1, 0, 2, 3] S8x112x56x56
  bcast_S112_S1x112x1x1_1 : S112.BroadcastsInDim S1x112x1x1 (![1] : Fin 1 → Fin S1x112x1x1.rank)
  bcast_S1x112x1x1_S8x112x56x56_0_1_2_3 : S1x112x1x1.BroadcastsInDim S8x112x56x56 (![0, 1, 2, 3] : Fin 4 → Fin S8x112x56x56.rank)
  shapeCasts_S8x112x56x56_S8x112x3136 : S8x112x56x56.ShapeCasts S8x112x3136
  transposes_S8x112x3136_S8x3136x112_0_2_1 : S8x112x3136.Transposes [0, 2, 1] S8x3136x112
  reducesTo_S8x3136x112_S8x3136_d2 : S8x3136x112.ReducesTo [2] S8x3136
  bcast_S8x3136_S8x3136x1_0_1 : S8x3136.BroadcastsInDim S8x3136x1 (![0, 1] : Fin 2 → Fin S8x3136x1.rank)
  reducesTo_S112x3136_S3136_d0 : S112x3136.ReducesTo [0] S3136
  bcast_S3136_S1x3136_1 : S3136.BroadcastsInDim S1x3136 (![1] : Fin 1 → Fin S1x3136.rank)
  bcast_S_S8x3136x3136 : S_.BroadcastsInDim S8x3136x3136 (![] : Fin 0 → Fin S8x3136x3136.rank)
  bcast_S1x3136_S1x1x3136_1_2 : S1x3136.BroadcastsInDim S1x1x3136 (![1, 2] : Fin 2 → Fin S1x1x3136.rank)
  bcast_S8x3136x1_S8x3136x3136_0_1_2 : S8x3136x1.BroadcastsInDim S8x3136x3136 (![0, 1, 2] : Fin 3 → Fin S8x3136x3136.rank)
  bcast_S1x1x3136_S8x3136x3136_0_1_2 : S1x1x3136.BroadcastsInDim S8x3136x3136 (![0, 1, 2] : Fin 3 → Fin S8x3136x3136.rank)
  sliceFits_S8x3136x3136_S8x3136x3 : S8x3136x3136.Slices (fun _ => 0) S8x3136x3
  slices_S8x3136x3_S8x3136x1_0_0_0 : S8x3136x3.Slices ![0, 0, 0] S8x3136x1
  shapeCasts_S8x3136x1_S8x3136 : S8x3136x1.ShapeCasts S8x3136
  bcast_S_S8x3136 : S_.BroadcastsInDim S8x3136 (![] : Fin 0 → Fin S8x3136.rank)
  slices_S8x3136x3_S8x3136x1_0_0_1 : S8x3136x3.Slices ![0, 0, 1] S8x3136x1
  slices_S8x3136x3_S8x3136x1_0_0_2 : S8x3136x3.Slices ![0, 0, 2] S8x3136x1
  bcast_S_S112x3136 : S_.BroadcastsInDim S112x3136 (![] : Fin 0 → Fin S112x3136.rank)
  reducesTo_S112x3136_S_d0_1 : S112x3136.ReducesTo [0, 1] S_
  shapeCasts_S8x3136_S8x56x56 : S8x3136.ShapeCasts S8x56x56
  bcast_S8x56x56_S8x1x56x56_0_2_3 : S8x56x56.BroadcastsInDim S8x1x56x56 (![0, 2, 3] : Fin 3 → Fin S8x1x56x56.rank)
  bcast_S_S8x3136x112 : S_.BroadcastsInDim S8x3136x112 (![] : Fin 0 → Fin S8x3136x112.rank)
  dot_S112x1792_S8x1792x56x56_S112x8x56x56_1_1_0_023_n_n_wf : DotDims.WF S112x1792 S8x1792x56x56 S112x8x56x56 [1] [1] [0] [0, 2, 3] [] []
  dot_S8x3136x112_S112x3136_S8x3136x3136_2_0_01_1_n_n_wf : DotDims.WF S8x3136x112 S112x3136 S8x3136x3136 [2] [0] [0, 1] [1] [] []

variable [Facts]

def dot_S112x1792_S8x1792x56x56_S112x8x56x56_1_1_0_023_n_n : DotDims S112x1792 S8x1792x56x56 S112x8x56x56 where
  lhsContracting := [1]
  rhsContracting := [1]
  lhsNonContracting := [0]
  rhsNonContracting := [0, 2, 3]
  lhsBatch := []
  rhsBatch := []
  wf := dot_S112x1792_S8x1792x56x56_S112x8x56x56_1_1_0_023_n_n_wf
def dot_S8x3136x112_S112x3136_S8x3136x3136_2_0_01_1_n_n : DotDims S8x3136x112 S112x3136 S8x3136x3136 where
  lhsContracting := [2]
  rhsContracting := [0]
  lhsNonContracting := [0, 1]
  rhsNonContracting := [1]
  lhsBatch := []
  rhsBatch := []
  wf := dot_S8x3136x112_S112x3136_S8x3136x3136_2_0_01_1_n_n_wf
def fn_part2 {F : FTy → Type} [FloatOps F] (main_arg3 : FVec F S112x3136 .f32) (main_values : FVec F S8x3136x3 .f32) (main_v33 : IVec S8x3136 1) (main_v38 : IVec S8x3136 1) : IVec S8x1x56x56 1 × IVec S8x3136x112 1 :=
  let main_v39 : FVec F S8x3136x1 .f32 := (extractStridedSlice S8x3136x1 ![0, 0, 1] · slices_S8x3136x3_S8x3136x1_0_0_1) main_values
  let main_v40 : FVec F S8x3136 .f32 := shapeCast S8x3136 main_v39 shapeCasts_S8x3136x1_S8x3136
  let main_v41 : FVec F S8x3136x1 .f32 := (extractStridedSlice S8x3136x1 ![0, 0, 2] · slices_S8x3136x3_S8x3136x1_0_0_2) main_values
  let main_v42 : FVec F S8x3136 .f32 := shapeCast S8x3136 main_v41 shapeCasts_S8x3136x1_S8x3136
  let main_v43 : IVec S8x3136 1 := cmpf .ogt main_v40 main_v42
  let main_v44 : IVec S8x3136 1 := andi main_v38 main_v43
  let main_v45 : FVec F S112x3136 .f32 := Host.absf main_arg3
  let main_cst_6 : FVec F S_ .f32 := constant S_ .f32 0x7F800000#32
  let main_v46 : FVec F S112x3136 .f32 := broadcastInDim S112x3136 ![] bcast_S_S112x3136 main_cst_6
  let main_v47 : IVec S112x3136 1 := cmpf .olt main_v45 main_v46
  let main_c : IVec S_ 1 := constantI S_ 1 1#1
  let main_v48 : IVec S_ 1 := (fun x v => Host.reduce IntOp.andi x v reducesTo_S112x3136_S_d0_1 h_S_) main_v47 main_c
  let main_v49 : IVec S8x3136 1 := broadcastInDim S8x3136 ![] bcast_S_S8x3136 main_v48
  let main_v50 : IVec S8x3136 1 := andi main_v44 main_v49
  let main_v51 : IVec S8x3136 1 := ori main_v33 main_v50
  let main_v52 : IVec S8x56x56 1 := shapeCast S8x56x56 main_v51 shapeCasts_S8x3136_S8x56x56
  let main_v53 : IVec S8x1x56x56 1 := broadcastInDim S8x1x56x56 ![0, 2, 3] bcast_S8x56x56_S8x1x56x56_0_2_3 main_v52
  let main_c_7 : IVec S_ 1 := constantI S_ 1 1#1
  let main_v54 : IVec S8x3136x112 1 := broadcastInDim S8x3136x112 ![] bcast_S_S8x3136x112 main_c_7
  (main_v53, main_v54)

def fn_part1 {F : FTy → Type} [FloatOps F] (main_arg3 : FVec F S112x3136 .f32) (main_v14 : FVec F S8x3136x1 .f32) (main_v17 : FVec F S1x3136 .f32) (main_v18 : FVec F S8x3136x3136 .f32) (main_cst_3 : FVec F S_ .f32) : IVec S8x1x56x56 1 × IVec S8x3136x112 1 :=
  let main_v19 : FVec F S8x3136x3136 .f32 := broadcastInDim S8x3136x3136 ![] bcast_S_S8x3136x3136 main_cst_3
  let main_v20 : FVec F S8x3136x3136 .f32 := mulf main_v19 main_v18
  let main_v21 : FVec F S1x1x3136 .f32 := broadcastInDim S1x1x3136 ![1, 2] bcast_S1x3136_S1x1x3136_1_2 main_v17
  let main_v22 : FVec F S8x3136x3136 .f32 := broadcastInDim S8x3136x3136 ![0, 1, 2] bcast_S8x3136x1_S8x3136x3136_0_1_2 main_v14
  let main_v23 : FVec F S8x3136x3136 .f32 := broadcastInDim S8x3136x3136 ![0, 1, 2] bcast_S1x1x3136_S8x3136x3136_0_1_2 main_v21
  let main_v24 : FVec F S8x3136x3136 .f32 := addf main_v22 main_v23
  let main_v25 : FVec F S8x3136x3136 .f32 := subf main_v24 main_v20
  let main_cst_4 : FVec F S_ .f32 := constant S_ .f32 0x00000000#32
  let main_v26 : FVec F S8x3136x3136 .f32 := broadcastInDim S8x3136x3136 ![] bcast_S_S8x3136x3136 main_cst_4
  let main_v27 : FVec F S8x3136x3136 .f32 := maximumf main_v25 main_v26
  let main_v28 : FVec F S8x3136x3136 .f32 := Host.sqrt main_v27
  let main_v29 : FVec F S8x3136x3136 .f32 := Host.negf main_v28
  let main_values : FVec F S8x3136x3 .f32 := (fun x => (Host.topK S8x3136x3 2 (FloatOps.cmpfTotal .gt) x sliceFits_S8x3136x3136_S8x3136x3).1) main_v29
  let main_indices : IVec S8x3136x3 32 := (fun x => (Host.topK S8x3136x3 2 (FloatOps.cmpfTotal .gt) x sliceFits_S8x3136x3136_S8x3136x3).2) main_v29
  let main_v30 : FVec F S8x3136x1 .f32 := (extractStridedSlice S8x3136x1 ![0, 0, 0] · slices_S8x3136x3_S8x3136x1_0_0_0) main_values
  let main_v31 : FVec F S8x3136 .f32 := shapeCast S8x3136 main_v30 shapeCasts_S8x3136x1_S8x3136
  let main_cst_5 : FVec F S_ .f32 := constant S_ .f32 0x00000000#32
  let main_v32 : FVec F S8x3136 .f32 := broadcastInDim S8x3136 ![] bcast_S_S8x3136 main_cst_5
  let main_v33 : IVec S8x3136 1 := cmpf .oeq main_v31 main_v32
  let main_v34 : FVec F S8x3136x1 .f32 := (extractStridedSlice S8x3136x1 ![0, 0, 0] · slices_S8x3136x3_S8x3136x1_0_0_0) main_values
  let main_v35 : FVec F S8x3136 .f32 := shapeCast S8x3136 main_v34 shapeCasts_S8x3136x1_S8x3136
  let main_v36 : FVec F S8x3136x1 .f32 := (extractStridedSlice S8x3136x1 ![0, 0, 1] · slices_S8x3136x3_S8x3136x1_0_0_1) main_values
  let main_v37 : FVec F S8x3136 .f32 := shapeCast S8x3136 main_v36 shapeCasts_S8x3136x1_S8x3136
  let main_v38 : IVec S8x3136 1 := cmpf .ogt main_v35 main_v37
  fn_part2 (F := F) main_arg3 main_values main_v33 main_v38

def fn {F : FTy → Type} [FloatOps F] (main_arg0 : FVec F S1x8x1792x56x56 .f32) (main_arg1 : FVec F S112x1792 .f32) (main_arg2 : FVec F S112 .f32) (main_arg3 : FVec F S112x3136 .f32) : IVec S8x1x56x56 1 × IVec S8x3136x112 1 :=
  let main_v0 : FVec F S8x1792x56x56 .f32 := shapeCast S8x1792x56x56 main_arg0 shapeCasts_S1x8x1792x56x56_S8x1792x56x56
  let main_cst : FVec F S_ .f32 := constant S_ .f32 0x00000000#32
  let main_v1 : FVec F S_ .f32 := broadcastInDim S_ ![] bcast_S_S_ main_cst
  let main_v2 : FVec F S8x1792x56x56 .f32 := (fun x v => Host.reduceWindowAdd ![1, 1, 3, 3] ![1, 1, 1, 1] ![0, 0, 1, 1] ![0, 0, 1, 1] x v reduceWindows_S8x1792x56x56_S8x1792x56x56_w1s1p0_0_w1s1p0_0_w3s1p1_1_w3s1p1_1 h_S_) main_v0 main_v1
  let main_cst_0 : FVec F S_ .f32 := constant S_ .f32 0x41100000#32
  let main_v3 : FVec F S8x1792x56x56 .f32 := broadcastInDim S8x1792x56x56 ![] bcast_S_S8x1792x56x56 main_cst_0
  let main_v4 : FVec F S8x1792x56x56 .f32 := Host.divf main_v2 main_v3
  let main_v5 : FVec F S112x8x56x56 .f32 := (fun l r => Host.dotGeneral dot_S112x1792_S8x1792x56x56_S112x8x56x56_1_1_0_023_n_n none l r) main_arg1 main_v4
  let main_v6 : FVec F S8x112x56x56 .f32 := (transpose S8x112x56x56 [1, 0, 2, 3] · transposes_S112x8x56x56_S8x112x56x56_1_0_2_3) main_v5
  let main_v7 : FVec F S1x112x1x1 .f32 := broadcastInDim S1x112x1x1 ![1] bcast_S112_S1x112x1x1_1 main_arg2
  let main_v8 : FVec F S8x112x56x56 .f32 := broadcastInDim S8x112x56x56 ![0, 1, 2, 3] bcast_S1x112x1x1_S8x112x56x56_0_1_2_3 main_v7
  let main_v9 : FVec F S8x112x56x56 .f32 := addf main_v6 main_v8
  let main_v10 : FVec F S8x112x3136 .f32 := shapeCast S8x112x3136 main_v9 shapeCasts_S8x112x56x56_S8x112x3136
  let main_v11 : FVec F S8x3136x112 .f32 := (transpose S8x3136x112 [0, 2, 1] · transposes_S8x112x3136_S8x3136x112_0_2_1) main_v10
  let main_v12 : FVec F S8x3136x112 .f32 := mulf main_v11 main_v11
  let main_cst_1 : FVec F S_ .f32 := constant S_ .f32 0x00000000#32
  let main_v13 : FVec F S8x3136 .f32 := (fun x v => Host.reduceAdd x v reducesTo_S8x3136x112_S8x3136_d2 h_S_) main_v12 main_cst_1
  let main_v14 : FVec F S8x3136x1 .f32 := broadcastInDim S8x3136x1 ![0, 1] bcast_S8x3136_S8x3136x1_0_1 main_v13
  let main_v15 : FVec F S112x3136 .f32 := mulf main_arg3 main_arg3
  let main_cst_2 : FVec F S_ .f32 := constant S_ .f32 0x00000000#32
  let main_v16 : FVec F S3136 .f32 := (fun x v => Host.reduceAdd x v reducesTo_S112x3136_S3136_d0 h_S_) main_v15 main_cst_2
  let main_v17 : FVec F S1x3136 .f32 := broadcastInDim S1x3136 ![1] bcast_S3136_S1x3136_1 main_v16
  let main_v18 : FVec F S8x3136x3136 .f32 := (fun l r => Host.dotGeneral dot_S8x3136x112_S112x3136_S8x3136x3136_2_0_01_1_n_n none l r) main_v11 main_arg3
  let main_cst_3 : FVec F S_ .f32 := constant S_ .f32 0x40000000#32
  fn_part1 (F := F) main_arg3 main_v14 main_v17 main_v18 main_cst_3
-- ==== Pre_finite_and_apart.lean ====
abbrev S1x8x1792x56x56 : Shape := ⟨5, ![1, 8, 1792, 56, 56]⟩
abbrev S112x1792 : Shape := ⟨2, ![112, 1792]⟩
abbrev S112 : Shape := ⟨1, ![112]⟩
abbrev S112x3136 : Shape := ⟨2, ![112, 3136]⟩
abbrev S_ : Shape := ⟨0, ![]⟩
abbrev S8x1792x56x56 : Shape := ⟨4, ![8, 1792, 56, 56]⟩
abbrev S112x8x56x56 : Shape := ⟨4, ![112, 8, 56, 56]⟩
abbrev S8x112x56x56 : Shape := ⟨4, ![8, 112, 56, 56]⟩
abbrev S1x112x1x1 : Shape := ⟨4, ![1, 112, 1, 1]⟩
abbrev S8x112x3136 : Shape := ⟨3, ![8, 112, 3136]⟩
abbrev S8x3136x112 : Shape := ⟨3, ![8, 3136, 112]⟩
abbrev S8x3136 : Shape := ⟨2, ![8, 3136]⟩
abbrev S8x3136x1 : Shape := ⟨3, ![8, 3136, 1]⟩
abbrev S3136 : Shape := ⟨1, ![3136]⟩
abbrev S1x3136 : Shape := ⟨2, ![1, 3136]⟩
abbrev S8x3136x3136 : Shape := ⟨3, ![8, 3136, 3136]⟩
abbrev S1x1x3136 : Shape := ⟨3, ![1, 1, 3136]⟩
abbrev S8x3136x3 : Shape := ⟨3, ![8, 3136, 3]⟩

class Facts : Prop where
  bcast_S_S1x8x1792x56x56 : S_.BroadcastsInDim S1x8x1792x56x56 (![] : Fin 0 → Fin S1x8x1792x56x56.rank)
  reducesTo_S1x8x1792x56x56_S_d0_1_2_3_4 : S1x8x1792x56x56.ReducesTo [0, 1, 2, 3, 4] S_
  h_S_ : 0 < S_.numel
  bcast_S_S112x1792 : S_.BroadcastsInDim S112x1792 (![] : Fin 0 → Fin S112x1792.rank)
  reducesTo_S112x1792_S_d0_1 : S112x1792.ReducesTo [0, 1] S_
  bcast_S_S112x3136 : S_.BroadcastsInDim S112x3136 (![] : Fin 0 → Fin S112x3136.rank)
  reducesTo_S112x3136_S_d0_1 : S112x3136.ReducesTo [0, 1] S_
  shapeCasts_S1x8x1792x56x56_S8x1792x56x56 : S1x8x1792x56x56.ShapeCasts S8x1792x56x56
  bcast_S_S_ : S_.BroadcastsInDim S_ (![] : Fin 0 → Fin S_.rank)
  reduceWindows_S8x1792x56x56_S8x1792x56x56_w1s1p0_0_w1s1p0_0_w3s1p1_1_w3s1p1_1 : S8x1792x56x56.ReduceWindows (![1, 1, 3, 3] : Fin 4 → Nat) ![1, 1, 1, 1] ![0, 0, 1, 1] ![0, 0, 1, 1] S8x1792x56x56
  bcast_S_S8x1792x56x56 : S_.BroadcastsInDim S8x1792x56x56 (![] : Fin 0 → Fin S8x1792x56x56.rank)
  transposes_S112x8x56x56_S8x112x56x56_1_0_2_3 : S112x8x56x56.Transposes [1, 0, 2, 3] S8x112x56x56
  bcast_S112_S1x112x1x1_1 : S112.BroadcastsInDim S1x112x1x1 (![1] : Fin 1 → Fin S1x112x1x1.rank)
  bcast_S1x112x1x1_S8x112x56x56_0_1_2_3 : S1x112x1x1.BroadcastsInDim S8x112x56x56 (![0, 1, 2, 3] : Fin 4 → Fin S8x112x56x56.rank)
  shapeCasts_S8x112x56x56_S8x112x3136 : S8x112x56x56.ShapeCasts S8x112x3136
  transposes_S8x112x3136_S8x3136x112_0_2_1 : S8x112x3136.Transposes [0, 2, 1] S8x3136x112
  reducesTo_S8x3136x112_S8x3136_d2 : S8x3136x112.ReducesTo [2] S8x3136
  bcast_S8x3136_S8x3136x1_0_1 : S8x3136.BroadcastsInDim S8x3136x1 (![0, 1] : Fin 2 → Fin S8x3136x1.rank)
  reducesTo_S112x3136_S3136_d0 : S112x3136.ReducesTo [0] S3136
  bcast_S3136_S1x3136_1 : S3136.BroadcastsInDim S1x3136 (![1] : Fin 1 → Fin S1x3136.rank)
  bcast_S_S8x3136x3136 : S_.BroadcastsInDim S8x3136x3136 (![] : Fin 0 → Fin S8x3136x3136.rank)
  bcast_S1x3136_S1x1x3136_1_2 : S1x3136.BroadcastsInDim S1x1x3136 (![1, 2] : Fin 2 → Fin S1x1x3136.rank)
  bcast_S8x3136x1_S8x3136x3136_0_1_2 : S8x3136x1.BroadcastsInDim S8x3136x3136 (![0, 1, 2] : Fin 3 → Fin S8x3136x3136.rank)
  bcast_S1x1x3136_S8x3136x3136_0_1_2 : S1x1x3136.BroadcastsInDim S8x3136x3136 (![0, 1, 2] : Fin 3 → Fin S8x3136x3136.rank)
  sliceFits_S8x3136x3136_S8x3136x3 : S8x3136x3136.Slices (fun _ => 0) S8x3136x3
  slices_S8x3136x3_S8x3136x1_0_0_0 : S8x3136x3.Slices ![0, 0, 0] S8x3136x1
  shapeCasts_S8x3136x1_S8x3136 : S8x3136x1.ShapeCasts S8x3136
  slices_S8x3136x3_S8x3136x1_0_0_1 : S8x3136x3.Slices ![0, 0, 1] S8x3136x1
  reducesTo_S8x3136_S_d0_1 : S8x3136.ReducesTo [0, 1] S_
  slices_S8x3136x3_S8x3136x1_0_0_2 : S8x3136x3.Slices ![0, 0, 2] S8x3136x1
  dot_S112x1792_S8x1792x56x56_S112x8x56x56_1_1_0_023_n_n_wf : DotDims.WF S112x1792 S8x1792x56x56 S112x8x56x56 [1] [1] [0] [0, 2, 3] [] []
  dot_S8x3136x112_S112x3136_S8x3136x3136_2_0_01_1_n_n_wf : DotDims.WF S8x3136x112 S112x3136 S8x3136x3136 [2] [0] [0, 1] [1] [] []

variable [Facts]

def dot_S112x1792_S8x1792x56x56_S112x8x56x56_1_1_0_023_n_n : DotDims S112x1792 S8x1792x56x56 S112x8x56x56 where
  lhsContracting := [1]
  rhsContracting := [1]
  lhsNonContracting := [0]
  rhsNonContracting := [0, 2, 3]
  lhsBatch := []
  rhsBatch := []
  wf := dot_S112x1792_S8x1792x56x56_S112x8x56x56_1_1_0_023_n_n_wf
def dot_S8x3136x112_S112x3136_S8x3136x3136_2_0_01_1_n_n : DotDims S8x3136x112 S112x3136 S8x3136x3136 where
  lhsContracting := [2]
  rhsContracting := [0]
  lhsNonContracting := [0, 1]
  rhsNonContracting := [1]
  lhsBatch := []
  rhsBatch := []
  wf := dot_S8x3136x112_S112x3136_S8x3136x3136_2_0_01_1_n_n_wf
def fn_part3 {F : FTy → Type} [FloatOps F] (main_v13 : IVec S_ 1) (main_v49 : IVec S_ 1) (main_v55 : IVec S_ 1) : IVec S_ 1 :=
  let main_v56 : IVec S_ 1 := andi main_v49 main_v55
  let main_v57 : IVec S_ 1 := andi main_v13 main_v56
  main_v57

def fn_part2 {F : FTy → Type} [FloatOps F] (main_v13 : IVec S_ 1) (main_v34 : FVec F S8x3136x3136 .f32) (main_v35 : FVec F S1x1x3136 .f32) (main_v36 : FVec F S8x3136x3136 .f32) : IVec S_ 1 :=
  let main_v37 : FVec F S8x3136x3136 .f32 := broadcastInDim S8x3136x3136 ![0, 1, 2] bcast_S1x1x3136_S8x3136x3136_0_1_2 main_v35
  let main_v38 : FVec F S8x3136x3136 .f32 := addf main_v36 main_v37
  let main_v39 : FVec F S8x3136x3136 .f32 := subf main_v38 main_v34
  let main_cst_9 : FVec F S_ .f32 := constant S_ .f32 0x00000000#32
  let main_v40 : FVec F S8x3136x3136 .f32 := broadcastInDim S8x3136x3136 ![] bcast_S_S8x3136x3136 main_cst_9
  let main_v41 : FVec F S8x3136x3136 .f32 := maximumf main_v39 main_v40
  let main_v42 : FVec F S8x3136x3136 .f32 := Host.sqrt main_v41
  let main_v43 : FVec F S8x3136x3136 .f32 := Host.negf main_v42
  let main_values : FVec F S8x3136x3 .f32 := (fun x => (Host.topK S8x3136x3 2 (FloatOps.cmpfTotal .gt) x sliceFits_S8x3136x3136_S8x3136x3).1) main_v43
  let main_indices : IVec S8x3136x3 32 := (fun x => (Host.topK S8x3136x3 2 (FloatOps.cmpfTotal .gt) x sliceFits_S8x3136x3136_S8x3136x3).2) main_v43
  let main_v44 : FVec F S8x3136x1 .f32 := (extractStridedSlice S8x3136x1 ![0, 0, 0] · slices_S8x3136x3_S8x3136x1_0_0_0) main_values
  let main_v45 : FVec F S8x3136 .f32 := shapeCast S8x3136 main_v44 shapeCasts_S8x3136x1_S8x3136
  let main_v46 : FVec F S8x3136x1 .f32 := (extractStridedSlice S8x3136x1 ![0, 0, 1] · slices_S8x3136x3_S8x3136x1_0_0_1) main_values
  let main_v47 : FVec F S8x3136 .f32 := shapeCast S8x3136 main_v46 shapeCasts_S8x3136x1_S8x3136
  let main_v48 : IVec S8x3136 1 := cmpf .ogt main_v45 main_v47
  let main_c_10 : IVec S_ 1 := constantI S_ 1 1#1
  let main_v49 : IVec S_ 1 := (fun x v => Host.reduce IntOp.andi x v reducesTo_S8x3136_S_d0_1 h_S_) main_v48 main_c_10
  let main_v50 : FVec F S8x3136x1 .f32 := (extractStridedSlice S8x3136x1 ![0, 0, 1] · slices_S8x3136x3_S8x3136x1_0_0_1) main_values
  let main_v51 : FVec F S8x3136 .f32 := shapeCast S8x3136 main_v50 shapeCasts_S8x3136x1_S8x3136
  let main_v52 : FVec F S8x3136x1 .f32 := (extractStridedSlice S8x3136x1 ![0, 0, 2] · slices_S8x3136x3_S8x3136x1_0_0_2) main_values
  let main_v53 : FVec F S8x3136 .f32 := shapeCast S8x3136 main_v52 shapeCasts_S8x3136x1_S8x3136
  let main_v54 : IVec S8x3136 1 := cmpf .ogt main_v51 main_v53
  let main_c_11 : IVec S_ 1 := constantI S_ 1 1#1
  let main_v55 : IVec S_ 1 := (fun x v => Host.reduce IntOp.andi x v reducesTo_S8x3136_S_d0_1 h_S_) main_v54 main_c_11
  fn_part3 (F := F) main_v13 main_v49 main_v55

def fn_part1 {F : FTy → Type} [FloatOps F] (main_arg1 : FVec F S112x1792 .f32) (main_arg2 : FVec F S112 .f32) (main_arg3 : FVec F S112x3136 .f32) (main_v13 : IVec S_ 1) (main_v16 : FVec F S8x1792x56x56 .f32) : IVec S_ 1 :=
  let main_cst_5 : FVec F S_ .f32 := constant S_ .f32 0x41100000#32
  let main_v17 : FVec F S8x1792x56x56 .f32 := broadcastInDim S8x1792x56x56 ![] bcast_S_S8x1792x56x56 main_cst_5
  let main_v18 : FVec F S8x1792x56x56 .f32 := Host.divf main_v16 main_v17
  let main_v19 : FVec F S112x8x56x56 .f32 := (fun l r => Host.dotGeneral dot_S112x1792_S8x1792x56x56_S112x8x56x56_1_1_0_023_n_n none l r) main_arg1 main_v18
  let main_v20 : FVec F S8x112x56x56 .f32 := (transpose S8x112x56x56 [1, 0, 2, 3] · transposes_S112x8x56x56_S8x112x56x56_1_0_2_3) main_v19
  let main_v21 : FVec F S1x112x1x1 .f32 := broadcastInDim S1x112x1x1 ![1] bcast_S112_S1x112x1x1_1 main_arg2
  let main_v22 : FVec F S8x112x56x56 .f32 := broadcastInDim S8x112x56x56 ![0, 1, 2, 3] bcast_S1x112x1x1_S8x112x56x56_0_1_2_3 main_v21
  let main_v23 : FVec F S8x112x56x56 .f32 := addf main_v20 main_v22
  let main_v24 : FVec F S8x112x3136 .f32 := shapeCast S8x112x3136 main_v23 shapeCasts_S8x112x56x56_S8x112x3136
  let main_v25 : FVec F S8x3136x112 .f32 := (transpose S8x3136x112 [0, 2, 1] · transposes_S8x112x3136_S8x3136x112_0_2_1) main_v24
  let main_v26 : FVec F S8x3136x112 .f32 := mulf main_v25 main_v25
  let main_cst_6 : FVec F S_ .f32 := constant S_ .f32 0x00000000#32
  let main_v27 : FVec F S8x3136 .f32 := (fun x v => Host.reduceAdd x v reducesTo_S8x3136x112_S8x3136_d2 h_S_) main_v26 main_cst_6
  let main_v28 : FVec F S8x3136x1 .f32 := broadcastInDim S8x3136x1 ![0, 1] bcast_S8x3136_S8x3136x1_0_1 main_v27
  let main_v29 : FVec F S112x3136 .f32 := mulf main_arg3 main_arg3
  let main_cst_7 : FVec F S_ .f32 := constant S_ .f32 0x00000000#32
  let main_v30 : FVec F S3136 .f32 := (fun x v => Host.reduceAdd x v reducesTo_S112x3136_S3136_d0 h_S_) main_v29 main_cst_7
  let main_v31 : FVec F S1x3136 .f32 := broadcastInDim S1x3136 ![1] bcast_S3136_S1x3136_1 main_v30
  let main_v32 : FVec F S8x3136x3136 .f32 := (fun l r => Host.dotGeneral dot_S8x3136x112_S112x3136_S8x3136x3136_2_0_01_1_n_n none l r) main_v25 main_arg3
  let main_cst_8 : FVec F S_ .f32 := constant S_ .f32 0x40000000#32
  let main_v33 : FVec F S8x3136x3136 .f32 := broadcastInDim S8x3136x3136 ![] bcast_S_S8x3136x3136 main_cst_8
  let main_v34 : FVec F S8x3136x3136 .f32 := mulf main_v33 main_v32
  let main_v35 : FVec F S1x1x3136 .f32 := broadcastInDim S1x1x3136 ![1, 2] bcast_S1x3136_S1x1x3136_1_2 main_v31
  let main_v36 : FVec F S8x3136x3136 .f32 := broadcastInDim S8x3136x3136 ![0, 1, 2] bcast_S8x3136x1_S8x3136x3136_0_1_2 main_v28
  fn_part2 (F := F) main_v13 main_v34 main_v35 main_v36

def fn {F : FTy → Type} [FloatOps F] (main_arg0 : FVec F S1x8x1792x56x56 .f32) (main_arg1 : FVec F S112x1792 .f32) (main_arg2 : FVec F S112 .f32) (main_arg3 : FVec F S112x3136 .f32) : IVec S_ 1 :=
  let main_v0 : FVec F S1x8x1792x56x56 .f32 := Host.absf main_arg0
  let main_cst : FVec F S_ .f32 := constant S_ .f32 0x7F800000#32
  let main_v1 : FVec F S1x8x1792x56x56 .f32 := broadcastInDim S1x8x1792x56x56 ![] bcast_S_S1x8x1792x56x56 main_cst
  let main_v2 : IVec S1x8x1792x56x56 1 := cmpf .olt main_v0 main_v1
  let main_c : IVec S_ 1 := constantI S_ 1 1#1
  let main_v3 : IVec S_ 1 := (fun x v => Host.reduce IntOp.andi x v reducesTo_S1x8x1792x56x56_S_d0_1_2_3_4 h_S_) main_v2 main_c
  let main_v4 : FVec F S112x1792 .f32 := Host.absf main_arg1
  let main_cst_0 : FVec F S_ .f32 := constant S_ .f32 0x7F800000#32
  let main_v5 : FVec F S112x1792 .f32 := broadcastInDim S112x1792 ![] bcast_S_S112x1792 main_cst_0
  let main_v6 : IVec S112x1792 1 := cmpf .olt main_v4 main_v5
  let main_c_1 : IVec S_ 1 := constantI S_ 1 1#1
  let main_v7 : IVec S_ 1 := (fun x v => Host.reduce IntOp.andi x v reducesTo_S112x1792_S_d0_1 h_S_) main_v6 main_c_1
  let main_v8 : IVec S_ 1 := andi main_v3 main_v7
  let main_v9 : FVec F S112x3136 .f32 := Host.absf main_arg3
  let main_cst_2 : FVec F S_ .f32 := constant S_ .f32 0x7F800000#32
  let main_v10 : FVec F S112x3136 .f32 := broadcastInDim S112x3136 ![] bcast_S_S112x3136 main_cst_2
  let main_v11 : IVec S112x3136 1 := cmpf .olt main_v9 main_v10
  let main_c_3 : IVec S_ 1 := constantI S_ 1 1#1
  let main_v12 : IVec S_ 1 := (fun x v => Host.reduce IntOp.andi x v reducesTo_S112x3136_S_d0_1 h_S_) main_v11 main_c_3
  let main_v13 : IVec S_ 1 := andi main_v8 main_v12
  let main_v14 : FVec F S8x1792x56x56 .f32 := shapeCast S8x1792x56x56 main_arg0 shapeCasts_S1x8x1792x56x56_S8x1792x56x56
  let main_cst_4 : FVec F S_ .f32 := constant S_ .f32 0x00000000#32
  let main_v15 : FVec F S_ .f32 := broadcastInDim S_ ![] bcast_S_S_ main_cst_4
  let main_v16 : FVec F S8x1792x56x56 .f32 := (fun x v => Host.reduceWindowAdd ![1, 1, 3, 3] ![1, 1, 1, 1] ![0, 0, 1, 1] ![0, 0, 1, 1] x v reduceWindows_S8x1792x56x56_S8x1792x56x56_w1s1p0_0_w1s1p0_0_w3s1p1_1_w3s1p1_1 h_S_) main_v14 main_v15
  fn_part1 (F := F) main_arg1 main_arg2 main_arg3 main_v13 main_v16
-- ==== Pre_finite_inputs.lean ====
abbrev S1x8x1792x56x56 : Shape := ⟨5, ![1, 8, 1792, 56, 56]⟩
abbrev S112x1792 : Shape := ⟨2, ![112, 1792]⟩
abbrev S112 : Shape := ⟨1, ![112]⟩
abbrev S112x3136 : Shape := ⟨2, ![112, 3136]⟩
abbrev S_ : Shape := ⟨0, ![]⟩

class Facts : Prop where
  bcast_S_S1x8x1792x56x56 : S_.BroadcastsInDim S1x8x1792x56x56 (![] : Fin 0 → Fin S1x8x1792x56x56.rank)
  reducesTo_S1x8x1792x56x56_S_d0_1_2_3_4 : S1x8x1792x56x56.ReducesTo [0, 1, 2, 3, 4] S_
  h_S_ : 0 < S_.numel
  bcast_S_S112x1792 : S_.BroadcastsInDim S112x1792 (![] : Fin 0 → Fin S112x1792.rank)
  reducesTo_S112x1792_S_d0_1 : S112x1792.ReducesTo [0, 1] S_

variable [Facts]

def fn {F : FTy → Type} [FloatOps F] (main_arg0 : FVec F S1x8x1792x56x56 .f32) (main_arg1 : FVec F S112x1792 .f32) (main_arg2 : FVec F S112 .f32) (main_arg3 : FVec F S112x3136 .f32) : IVec S_ 1 :=
  let main_v0 : FVec F S1x8x1792x56x56 .f32 := Host.absf main_arg0
  let main_cst : FVec F S_ .f32 := constant S_ .f32 0x7F800000#32
  let main_v1 : FVec F S1x8x1792x56x56 .f32 := broadcastInDim S1x8x1792x56x56 ![] bcast_S_S1x8x1792x56x56 main_cst
  let main_v2 : IVec S1x8x1792x56x56 1 := cmpf .olt main_v0 main_v1
  let main_c : IVec S_ 1 := constantI S_ 1 1#1
  let main_v3 : IVec S_ 1 := (fun x v => Host.reduce IntOp.andi x v reducesTo_S1x8x1792x56x56_S_d0_1_2_3_4 h_S_) main_v2 main_c
  let main_v4 : FVec F S112x1792 .f32 := Host.absf main_arg1
  let main_cst_0 : FVec F S_ .f32 := constant S_ .f32 0x7F800000#32
  let main_v5 : FVec F S112x1792 .f32 := broadcastInDim S112x1792 ![] bcast_S_S112x1792 main_cst_0
  let main_v6 : IVec S112x1792 1 := cmpf .olt main_v4 main_v5
  let main_c_1 : IVec S_ 1 := constantI S_ 1 1#1
  let main_v7 : IVec S_ 1 := (fun x v => Host.reduce IntOp.andi x v reducesTo_S112x1792_S_d0_1 h_S_) main_v6 main_c_1
  let main_v8 : IVec S_ 1 := andi main_v3 main_v7
  main_v8
-- ==== Kernel.lean ====
abbrev S1x8x1792x56x56 : Shape := ⟨5, ![1, 8, 1792, 56, 56]⟩
abbrev S112x1792 : Shape := ⟨2, ![112, 1792]⟩
abbrev S112 : Shape := ⟨1, ![112]⟩
abbrev S112x3136 : Shape := ⟨2, ![112, 3136]⟩
abbrev S1x8x56x56x1792 : Shape := ⟨5, ![1, 8, 56, 56, 1792]⟩
abbrev S8x3136x1792 : Shape := ⟨3, ![8, 3136, 1792]⟩
abbrev S1792x112 : Shape := ⟨2, ![1792, 112]⟩
abbrev S1x112 : Shape := ⟨2, ![1, 112]⟩
abbrev S8x3136x112 : Shape := ⟨3, ![8, 3136, 112]⟩
abbrev S8x112x3136 : Shape := ⟨3, ![8, 112, 3136]⟩
abbrev S1x3136x1792 : Shape := ⟨3, ![1, 3136, 1792]⟩
abbrev S1x3136x112 : Shape := ⟨3, ![1, 3136, 112]⟩
abbrev S1x112x3136 : Shape := ⟨3, ![1, 112, 3136]⟩
abbrev S3136x1792 : Shape := ⟨2, ![3136, 1792]⟩
abbrev S3136x112 : Shape := ⟨2, ![3136, 112]⟩
abbrev S3136x1 : Shape := ⟨2, ![3136, 1]⟩
abbrev S16x1568x1 : Shape := ⟨3, ![16, 1568, 1]⟩
abbrev S1x1568x112 : Shape := ⟨3, ![1, 1568, 112]⟩
abbrev S1x1568x1 : Shape := ⟨3, ![1, 1568, 1]⟩
abbrev S1568x112 : Shape := ⟨2, ![1568, 112]⟩
abbrev S1568 : Shape := ⟨1, ![1568]⟩
abbrev S1568x1 : Shape := ⟨2, ![1568, 1]⟩
abbrev S3136 : Shape := ⟨1, ![3136]⟩
abbrev S1x3136 : Shape := ⟨2, ![1, 3136]⟩
abbrev S1568x3136 : Shape := ⟨2, ![1568, 3136]⟩
abbrev S1568x128 : Shape := ⟨2, ![1568, 128]⟩
abbrev S1568x64 : Shape := ⟨2, ![1568, 64]⟩
abbrev S1568x448 : Shape := ⟨2, ![1568, 448]⟩
abbrev S8x1x56x56 : Shape := ⟨4, ![8, 1, 56, 56]⟩

abbrev nBuf : Space → Nat
  | .hbm => 13
  | .vmem => 13
  | .smem => 0
  | _ => 0

abbrev bufTy : (tb : Table) → Fin (tcTables nBuf tb) → BufTy
  | .hbm, ⟨0, _⟩ => ⟨S1x8x1792x56x56, .f32⟩
  | .hbm, ⟨1, _⟩ => ⟨S112x1792, .f32⟩
  | .hbm, ⟨2, _⟩ => ⟨S112, .f32⟩
  | .hbm, ⟨3, _⟩ => ⟨S112x3136, .f32⟩
  | .hbm, ⟨4, _⟩ => ⟨S1x8x56x56x1792, .f32⟩
  | .hbm, ⟨5, _⟩ => ⟨S8x3136x1792, .f32⟩
  | .hbm, ⟨6, _⟩ => ⟨S1792x112, .f32⟩
  | .hbm, ⟨7, _⟩ => ⟨S1x112, .f32⟩
  | .hbm, ⟨8, _⟩ => ⟨S8x3136x112, .f32⟩
  | .hbm, ⟨9, _⟩ => ⟨S8x112x3136, .f32⟩
  | .hbm, ⟨10, _⟩ => ⟨S16x1568x1, .f32⟩
  | .hbm, ⟨11, _⟩ => ⟨S8x1x56x56, .f32⟩
  | .hbm, ⟨12, _⟩ => ⟨S8x3136x112, .f32⟩
  | .local _ .vmem, ⟨0, _⟩ => ⟨S1x3136x1792, .f32⟩
  | .local _ .vmem, ⟨1, _⟩ => ⟨S1x3136x1792, .f32⟩
  | .local _ .vmem, ⟨2, _⟩ => ⟨S1792x112, .f32⟩
  | .local _ .vmem, ⟨3, _⟩ => ⟨S1x112, .f32⟩
  | .local _ .vmem, ⟨4, _⟩ => ⟨S1x3136x112, .f32⟩
  | .local _ .vmem, ⟨5, _⟩ => ⟨S1x3136x112, .f32⟩
  | .local _ .vmem, ⟨6, _⟩ => ⟨S1x112x3136, .f32⟩
  | .local _ .vmem, ⟨7, _⟩ => ⟨S1x112x3136, .f32⟩
  | .local _ .vmem, ⟨8, _⟩ => ⟨S1x1568x112, .f32⟩
  | .local _ .vmem, ⟨9, _⟩ => ⟨S1x1568x112, .f32⟩
  | .local _ .vmem, ⟨10, _⟩ => ⟨S112x3136, .f32⟩
  | .local _ .vmem, ⟨11, _⟩ => ⟨S1x1568x1, .f32⟩
  | .local _ .vmem, ⟨12, _⟩ => ⟨S1x1568x1, .f32⟩
  | _, _ => ⟨S1x8x1792x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3136x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1792x112 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x112 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x3136x112 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x112x3136 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![8, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage1_0 : Fin 2 → Memref sig .tc .vmem S1x1568x112 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S112x3136 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x1568x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== KernelIdeal.lean ====
variable {F : FTy → Type} [FloatOps F] [Named F]
def κ : String → Option EReal := fun
  | "big" => some ⊤
  | "ninth" => some ((1 / 9 : ℝ) : EReal)
  | _ => none
-- ==== ReferenceIdeal.lean ====
abbrev S1x8x1792x56x56 : Shape := ⟨5, ![1, 8, 1792, 56, 56]⟩
abbrev S112x1792 : Shape := ⟨2, ![112, 1792]⟩
abbrev S112 : Shape := ⟨1, ![112]⟩
abbrev S112x3136 : Shape := ⟨2, ![112, 3136]⟩
abbrev S8x1792x56x56 : Shape := ⟨4, ![8, 1792, 56, 56]⟩
abbrev S_ : Shape := ⟨0, ![]⟩
abbrev S112x8x56x56 : Shape := ⟨4, ![112, 8, 56, 56]⟩
abbrev S8x112x56x56 : Shape := ⟨4, ![8, 112, 56, 56]⟩
abbrev S1x112x1x1 : Shape := ⟨4, ![1, 112, 1, 1]⟩
abbrev S8x112x3136 : Shape := ⟨3, ![8, 112, 3136]⟩
abbrev S8x3136x112 : Shape := ⟨3, ![8, 3136, 112]⟩
abbrev S8x3136 : Shape := ⟨2, ![8, 3136]⟩
abbrev S8x3136x1 : Shape := ⟨3, ![8, 3136, 1]⟩
abbrev S3136 : Shape := ⟨1, ![3136]⟩
abbrev S1x3136 : Shape := ⟨2, ![1, 3136]⟩
abbrev S8x3136x3136 : Shape := ⟨3, ![8, 3136, 3136]⟩
abbrev S1x1x3136 : Shape := ⟨3, ![1, 1, 3136]⟩
abbrev S8x3136x3 : Shape := ⟨3, ![8, 3136, 3]⟩
abbrev S8x56x56 : Shape := ⟨3, ![8, 56, 56]⟩
abbrev S8x1x56x56 : Shape := ⟨4, ![8, 1, 56, 56]⟩

abbrev nBuf : Space → Nat
  | .hbm => 65
  | .vmem => 0
  | .smem => 0
  | _ => 0

abbrev bufTy : (tb : Table) → Fin (tcTables nBuf tb) → BufTy
  | .hbm, ⟨0, _⟩ => ⟨S1x8x1792x56x56, .f32⟩
  | .hbm, ⟨1, _⟩ => ⟨S112x1792, .f32⟩
  | .hbm, ⟨2, _⟩ => ⟨S112, .f32⟩
  | .hbm, ⟨3, _⟩ => ⟨S112x3136, .f32⟩
  | .hbm, ⟨4, _⟩ => ⟨S8x1792x56x56, .f32⟩
  | .hbm, ⟨5, _⟩ => ⟨S_, .f32⟩
  | .hbm, ⟨6, _⟩ => ⟨S_, .f32⟩
  | .hbm, ⟨7, _⟩ => ⟨S8x1792x56x56, .f32⟩
  | .hbm, ⟨8, _⟩ => ⟨S_, .f32⟩
  | .hbm, ⟨9, _⟩ => ⟨S8x1792x56x56, .f32⟩
  | .hbm, ⟨10, _⟩ => ⟨S8x1792x56x56, .f32⟩
  | .hbm, ⟨11, _⟩ => ⟨S112x8x56x56, .f32⟩
  | .hbm, ⟨12, _⟩ => ⟨S8x112x56x56, .f32⟩
  | .hbm, ⟨13, _⟩ => ⟨S1x112x1x1, .f32⟩
  | .hbm, ⟨14, _⟩ => ⟨S8x112x56x56, .f32⟩
  | .hbm, ⟨15, _⟩ => ⟨S8x112x56x56, .f32⟩
  | .hbm, ⟨16, _⟩ => ⟨S8x112x3136, .f32⟩
  | .hbm, ⟨17, _⟩ => ⟨S8x3136x112, .f32⟩
  | .hbm, ⟨18, _⟩ => ⟨S8x3136x112, .f32⟩
  | .hbm, ⟨19, _⟩ => ⟨S_, .f32⟩
  | .hbm, ⟨20, _⟩ => ⟨S8x3136, .f32⟩
  | .hbm, ⟨21, _⟩ => ⟨S8x3136x1, .f32⟩
  | .hbm, ⟨22, _⟩ => ⟨S112x3136, .f32⟩
  | .hbm, ⟨23, _⟩ => ⟨S_, .f32⟩
  | .hbm, ⟨24, _⟩ => ⟨S3136, .f32⟩
  | .hbm, ⟨25, _⟩ => ⟨S1x3136, .f32⟩
  | .hbm, ⟨26, _⟩ => ⟨S8x3136x3136, .f32⟩
  | .hbm, ⟨27, _⟩ => ⟨S_, .f32⟩
  | .hbm, ⟨28, _⟩ => ⟨S8x3136x3136, .f32⟩
  | .hbm, ⟨29, _⟩ => ⟨S8x3136x3136, .f32⟩
  | .hbm, ⟨30, _⟩ => ⟨S1x1x3136, .f32⟩
  | .hbm, ⟨31, _⟩ => ⟨S8x3136x3136, .f32⟩
  | .hbm, ⟨32, _⟩ => ⟨S8x3136x3136, .f32⟩
  | .hbm, ⟨33, _⟩ => ⟨S8x3136x3136, .f32⟩
  | .hbm, ⟨34, _⟩ => ⟨S8x3136x3136, .f32⟩
  | .hbm, ⟨35, _⟩ => ⟨S_, .f32⟩
  | .hbm, ⟨36, _⟩ => ⟨S8x3136x3136, .f32⟩
  | .hbm, ⟨37, _⟩ => ⟨S8x3136x3136, .f32⟩
  | .hbm, ⟨38, _⟩ => ⟨S8x3136x3136, .f32⟩
  | .hbm, ⟨39, _⟩ => ⟨S8x3136x3136, .f32⟩
  | .hbm, ⟨40, _⟩ => ⟨S8x3136x3, .f32⟩
  | .hbm, ⟨41, _⟩ => ⟨S8x3136x3, .i32⟩
  | .hbm, ⟨42, _⟩ => ⟨S8x3136x3, .f32⟩
  | .hbm, ⟨43, _⟩ => ⟨S8x3136x3, .f32⟩
  | .hbm, ⟨44, _⟩ => ⟨S_, .f32⟩
  | .hbm, ⟨45, _⟩ => ⟨S8x3136, .f32⟩
  | .hbm, ⟨46, _⟩ => ⟨S_, .f32⟩
  | .hbm, ⟨47, _⟩ => ⟨S8x3136, .f32⟩
  | .hbm, ⟨48, _⟩ => ⟨S8x3136, .f32⟩
  | .hbm, ⟨49, _⟩ => ⟨S8x3136x1, .f32⟩
  | .hbm, ⟨50, _⟩ => ⟨S8x3136x3, .f32⟩
  | .hbm, ⟨51, _⟩ => ⟨S8x3136x3, .f32⟩
  | .hbm, ⟨52, _⟩ => ⟨S8x3136x3, .f32⟩
  | .hbm, ⟨53, _⟩ => ⟨S_, .f32⟩
  | .hbm, ⟨54, _⟩ => ⟨S8x3136, .f32⟩
  | .hbm, ⟨55, _⟩ => ⟨S8x3136x1, .f32⟩
  | .hbm, ⟨56, _⟩ => ⟨S8x3136x3, .f32⟩
  | .hbm, ⟨57, _⟩ => ⟨S8x3136x3, .f32⟩
  | .hbm, ⟨58, _⟩ => ⟨S8x3136x1, .f32⟩
  | .hbm, ⟨59, _⟩ => ⟨S8x3136, .f32⟩
  | .hbm, ⟨60, _⟩ => ⟨S8x3136x1, .f32⟩
  | .hbm, ⟨61, _⟩ => ⟨S8x3136, .f32⟩
  | .hbm, ⟨62, _⟩ => ⟨S8x3136, .f32⟩
  | .hbm, ⟨63, _⟩ => ⟨S8x56x56, .f32⟩
  | .hbm, ⟨64, _⟩ => ⟨S8x1x56x56, .f32⟩
  | _, _ => ⟨S1x8x1792x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_values : Ref sig .tc := ⟨.hbm, 40, rfl⟩
abbrev main_indices : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩

abbrev nD : Nat := 1
abbrev τ : Topo := Topo.v7x

variable {F : FTy → Type} [FloatOps F]
-- ==== Proof.KernelPhi.lean ====
/- What the projection kernel leaves in its two output blocks, read at one element: the projected rows summed over the
   3×3 neighbourhood of their pixel by rotations of the row axis, times one ninth, plus the bias. -/
module

public import proofs.«01_k».proof.Proof.Gen.KernelIdeal.Frame
public import Idealize.ShloMosaic.Lib.Pointwise
public import Idealize.ShloMosaic.Lib.Pipeline.Value

@[expose] public section

set_option maxRecDepth 16384

noncomputable section

namespace Cert.KernelIdeal.Phi

open Idealize.ShloMosaic Cert.KernelIdeal.Gen

/-- A row rotated by `k` places: entry `q` of the rotated vector is entry `q - k`, around the end. -/
def turn (k : ℕ) (q : Fin 3136) : Fin 3136 := ⟨(q.val + 3136 - k) % 3136, Nat.mod_lt _ (by omega)⟩

/-- The sum over the pixel's left and right neighbours in its row of the picture. -/
def across (R : Fin 3136 → EReal) (q : Fin 3136) : EReal :=
  R q + (if q.val % 56 = 0 then 0 else R (turn 1 q)) + (if q.val % 56 = 55 then 0 else R (turn 3135 q))

/-- The sum over the pixel's neighbours above and below. -/
def down (R : Fin 3136 → EReal) (q : Fin 3136) : EReal :=
  R q + (if q.val < 56 then 0 else R (turn 56 q)) + (if 3080 ≤ q.val then 0 else R (turn 3080 q))

/-- One element of the projection. -/
def proj (x : Vec Ideal S1x3136x1792 .f32) (w : Vec Ideal S1792x112 .f32) (o : Fin 112) (q : Fin 3136) : EReal :=
  ∑ c : Fin 1792, x (ix3 0 q c) * w (ix2 c o)

/-- The width of the picture as the remainder's divisor (never zero, which the program tests for). -/
def wide : BitVec 32 := Scalar.select (Scalar.cmpi .eq 56#32 0#32) 1#32 56#32

/-- The pixel's column in the picture, as the kernel computes it on 32-bit words: the remainder by the width, the width
    added where remainder and divisor have different signs. -/
def colWord (q : BitVec 32) : BitVec 32 :=
  Scalar.select
    (IntOp.andi (IntOp.xori (IntOp.cmpi .slt (IntOp.remsi .vector q wide) 0#32) (Scalar.cmpi .slt wide 0#32))
      (IntOp.cmpi .ne (IntOp.remsi .vector q wide) 0#32))
    (IntOp.addi (IntOp.remsi .vector q wide) wide) (IntOp.remsi .vector q wide)

theorem col_first : ∀ q : Fin 3136,
    IntOp.cmpi .eq (colWord (BitVec.ofNat 32 q.val)) 0#32 = BitVec.ofBool (decide (q.val % 56 = 0)) := by
  decide +kernel

theorem col_last : ∀ q : Fin 3136,
    IntOp.cmpi .eq (colWord (BitVec.ofNat 32 q.val)) 55#32 = BitVec.ofBool (decide (q.val % 56 = 55)) := by
  decide +kernel

theorem slt_word : ∀ q : Fin 3136, IntOp.cmpi .slt (BitVec.ofNat 32 q.val) 56#32 = BitVec.ofBool (decide (q.val < 56)) := by
  decide +kernel

theorem sge_word : ∀ q : Fin 3136, IntOp.cmpi .sge (BitVec.ofNat 32 q.val) 3080#32 = BitVec.ofBool (decide (3080 ≤ q.val)) := by
  decide +kernel

theorem select_ofBool {α : Type} (p : Prop) [Decidable p] (a b : α) :
    Scalar.select (BitVec.ofBool (decide p)) a b = if p then a else b := by
  by_cases h : p <;> simp [Scalar.select, h]

/-- The projection summed over left and right neighbours. -/
theorem pay4_apply (x : Vec Ideal S1x3136x1792 .f32) (w : Vec Ideal S1792x112 .f32) (q : Fin 3136) (o : Fin 112) :
    k0_pay4 x w (ix2 q o) = across (proj x w o) q := by
  pointwise [k0_pay4]
  change proj x w o q + Scalar.select (IntOp.cmpi .eq (colWord (BitVec.ofNat 32 q.val)) 0#32) 0 (proj x w o (turn 1 q))
    + Scalar.select (IntOp.cmpi .eq (colWord (BitVec.ofNat 32 q.val)) 55#32) 0 (proj x w o (turn 3135 q)) = _
  rw [col_first, col_last, select_ofBool, select_ofBool]
  rfl

/-- The named constant one ninth. -/
theorem ninth : (Named.named κ "ninth" 0x3DE38E39#32 : Ideal .f32) = ((1 / 9 : ℝ) : EReal) :=
  IdealRules.named_const.ideal_named_scalar _ _ _ _ rfl

/-- The stored element: the neighbourhood's sum, times one ninth, plus the bias. -/
theorem pay1_apply (x : Vec Ideal S1x3136x1792 .f32) (w : Vec Ideal S1792x112 .f32) (b : Vec Ideal S1x112 .f32)
    (q : Fin 3136) (o : Fin 112) :
    k0_pay1 (iota .tc S3136x1 32 [0] iota_S3136x1_d0_w32) (k0_pay4 x w) (k0_pay5 x w) 3080#32 b (ix2 q o)
      = down (across (proj x w o)) q * ((1 / 9 : ℝ) : EReal) + b (ix2 0 o) := by
  pointwise [k0_pay1, k0_pay5]
  rw [slt_word, sge_word, select_ofBool, select_ofBool, pay4_apply, pay4_apply, pay4_apply, ninth]
  rfl

/-- The first output block at an element. -/
theorem out3_apply (x : Vec Ideal S1x3136x1792 .f32) (w : Vec Ideal S1792x112 .f32) (b : Vec Ideal S1x112 .f32)
    (q : Fin 3136) (o : Fin 112) :
    out0_3 x w b (ix3 0 q o) = down (across (proj x w o)) q * ((1 / 9 : ℝ) : EReal) + b (ix2 0 o) := by
  unfold out0_3 k0_pay8 k0_pay7 k0_pay6
  rw [View.canon_unit_zero (by funext a; fin_cases a <;> rfl), View.ld_unit_zero (by funext a; fin_cases a <;> rfl),
    View.ld_unit_zero (by funext a; fin_cases a <;> rfl), View.ld_unit_zero (by funext a; fin_cases a <;> rfl)]
  rw [← pay1_apply]
  pointwise [k0_pay2]

/-- The second output block at an element: the first transposed. -/
theorem out4_apply (x : Vec Ideal S1x3136x1792 .f32) (w : Vec Ideal S1792x112 .f32) (b : Vec Ideal S1x112 .f32)
    (o : Fin 112) (q : Fin 3136) :
    out0_4 x w b (ix3 0 o q) = down (across (proj x w o)) q * ((1 / 9 : ℝ) : EReal) + b (ix2 0 o) := by
  unfold out0_4 k0_pay8 k0_pay7 k0_pay6
  rw [View.canon_unit_zero (by funext a; fin_cases a <;> rfl), View.ld_unit_zero (by funext a; fin_cases a <;> rfl),
    View.ld_unit_zero (by funext a; fin_cases a <;> rfl), View.ld_unit_zero (by funext a; fin_cases a <;> rfl)]
  rw [← pay1_apply]
  pointwise [k0_pay3]

end Cert.KernelIdeal.Phi

end
-- ==== Proof.KernelArrays.lean ====
/- The two output arrays of the projection kernel after its whole grid, as functions of the arrays it is entered with:
   grid point `n` writes picture `n` of each. -/
module

public import proofs.«01_k».proof.Proof.KernelPhi
public import Idealize.ShloMosaic.Lib.Pipeline.ValueKit

@[expose] public section

set_option maxRecDepth 16384

noncomputable section

namespace Cert.KernelIdeal.Phi

open Idealize.ShloMosaic Idealize.ShloMosaic.TcCoe Cert.KernelIdeal.Gen
open Idealize.ShloMosaic.Pipeline (Dat)

/-- Channel `o` of the projection of picture `n` at pixel `q`. -/
def mix (x : Vec Ideal S8x3136x1792 .f32) (w : Vec Ideal S1792x112 .f32) (n : Fin 8) (o : Fin 112) (q : Fin 3136) : EReal :=
  ∑ c : Fin 1792, x (ix3 n q c) * w (ix2 c o)

/-- The projected and pooled feature of picture `n` at pixel `q`, channel `o`. -/
def feat (x : Vec Ideal S8x3136x1792 .f32) (w : Vec Ideal S1792x112 .f32) (b : Vec Ideal S1x112 .f32)
    (n : Fin 8) (q : Fin 3136) (o : Fin 112) : EReal :=
  down (across (mix x w n o)) q * ((1 / 9 : ℝ) : EReal) + b (ix2 0 o)

/-- The blocks of the projection kernel's windows at grid point `n`. -/
theorem maps0 : ∀ t : Fin cfg0.N,
    (win0_0.index t (0 : Fin 3) = t.val ∧ win0_0.index t (1 : Fin 3) = 0 ∧ win0_0.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0) :=
  (by decide +kernel : ∀ t : Fin grid0.N, _)

theorem points0 : cfg0.N = 8 := by decide +kernel

section
variable (V : (c : Dev nD) → (b : Ref sig .tc) → Buf (Elt Ideal) ((c.tc : Thread nD τ).loc b)) (c : Dev nD)

/-- The picture block at an element. -/
theorem x_block (t : Fin cfg0.N) (n : Fin 8) (hn : n.val = t.val) (q : Fin 3136) (k : Fin 1792) :
    iblk0 V c 0 t (ix3 0 q k : S1x3136x1792.Idx) = V c main_v1 (ix3 n q k : S8x3136x1792.Idx) := by
  obtain ⟨⟨e0, e1, e2⟩, -⟩ := maps0 t
  show V c main_v1 (((cfg0.win 0).blk t).view.emb (ix3 0 q k : S1x3136x1792.Idx)) = _
  congr 1
  funext a; apply Fin.ext
  match a with
  | ⟨0, _⟩ => show win0_0.index t (0 : Fin 3) * 1 + 1 * 0 = n.val; omega
  | ⟨1, _⟩ => show win0_0.index t (1 : Fin 3) * 3136 + 1 * q.val = q.val; omega
  | ⟨2, _⟩ => show win0_0.index t (2 : Fin 3) * 1792 + 1 * k.val = k.val; omega

/-- The weight block is the whole weight array. -/
theorem w_block (t : Fin cfg0.N) (k : Fin 1792) (o : Fin 112) :
    iblk0 V c 1 t (ix2 k o : S1792x112.Idx) = V c main_v2 (ix2 k o : S1792x112.Idx) := by
  obtain ⟨-, ⟨e0, e1⟩, -⟩ := maps0 t
  show V c main_v2 (((cfg0.win 1).blk t).view.emb (ix2 k o : S1792x112.Idx)) = _
  congr 1
  funext a; apply Fin.ext
  match a with
  | ⟨0, _⟩ => show win0_1.index t (0 : Fin 2) * 1792 + 1 * k.val = k.val; omega
  | ⟨1, _⟩ => show win0_1.index t (1 : Fin 2) * 112 + 1 * o.val = o.val; omega

/-- The bias block is the whole bias row. -/
theorem b_block (t : Fin cfg0.N) (o : Fin 112) :
    iblk0 V c 2 t (ix2 0 o : S1x112.Idx) = V c main_v3 (ix2 0 o : S1x112.Idx) := by
  obtain ⟨-, -, ⟨e0, e1⟩, -⟩ := maps0 t
  show V c main_v3 (((cfg0.win 2).blk t).view.emb (ix2 0 o : S1x112.Idx)) = _
  congr 1
  funext a; apply Fin.ext
  match a with
  | ⟨0, _⟩ => show win0_2.index t (0 : Fin 2) * 1 + 1 * 0 = 0; omega
  | ⟨1, _⟩ => show win0_2.index t (1 : Fin 2) * 112 + 1 * o.val = o.val; omega

/-- The features of grid point `t`'s blocks are the features of picture `t`. -/
theorem block_feat (t : Fin cfg0.N) (n : Fin 8) (hn : n.val = t.val) (q : Fin 3136) (o : Fin 112) :
    down (across (proj (iblk0 V c 0 t) (iblk0 V c 1 t) o)) q * ((1 / 9 : ℝ) : EReal) + iblk0 V c 2 t (ix2 0 o : S1x112.Idx)
      = feat (V c main_v1) (V c main_v2) (V c main_v3) n q o := by
  have hp : proj (iblk0 V c 0 t) (iblk0 V c 1 t) o
      = mix (V c main_v1) (V c main_v2) n o := by
    funext q
    unfold proj mix
    refine Finset.sum_congr rfl fun k _ => ?_
    rw [x_block V c t n hn, w_block]
  rw [hp, b_block]
  rfl

/-- The feature array, pixel by pixel, after the grid. -/
theorem arr3 : (dat0 V c).arrAt 3 cfg0.N
    = fun i : S8x3136x112.Idx => feat (V c main_v1) (V c main_v2) (V c main_v3) (i 0) (i 1) (i 2) := by
  refine Dat.arrAt_eq_of_covers (dat0 V c) 3 _ (by decide +kernel) fun t _ y => ?_
  obtain ⟨e0, e1, e2⟩ := (maps0 t).2.2.2.1
  rw [after0_3]
  have ht : t.val < 8 := points0 ▸ t.isLt
  idx_vars y
  obtain rfl : y0 = 0 := Subsingleton.elim _ _
  have hemb : ((cfg0.win 3).blk t).view.emb (ix3 0 y1 y2 : S1x3136x112.Idx) = (ix3 ⟨t.val, ht⟩ y1 y2 : S8x3136x112.Idx) := by
    funext a; apply Fin.ext
    match a with
    | ⟨0, _⟩ => show win0_3.index t (0 : Fin 3) * 1 + 1 * 0 = t.val; omega
    | ⟨1, _⟩ => show win0_3.index t (1 : Fin 3) * 3136 + 1 * y1.val = y1.val; omega
    | ⟨2, _⟩ => show win0_3.index t (2 : Fin 3) * 112 + 1 * y2.val = y2.val; omega
  have hv : out0_3 (iblk0 V c 0 t) (iblk0 V c 1 t) (iblk0 V c 2 t) (ix3 0 y1 y2 : S1x3136x112.Idx)
      = feat (V c main_v1) (V c main_v2) (V c main_v3) ⟨t.val, ht⟩ y1 y2 :=
    (out3_apply _ _ _ _ _).trans (block_feat V c t ⟨t.val, ht⟩ rfl _ _)
  refine (cast_eq _ _).trans ?_
  have hx : (cfg0.win 3).xinj (grid0.coords t) (ix3 0 y1 y2 : S1x3136x112.Idx) = (ix3 0 y1 y2 : S1x3136x112.Idx) := by
    funext a; apply Fin.ext; rfl
  refine (congrArg (out0_3 (iblk0 V c 0 t) (iblk0 V c 1 t) (iblk0 V c 2 t)) hx).trans ?_
  refine hv.trans ?_
  exact (congrArg (fun i : S8x3136x112.Idx => feat (V c main_v1) (V c main_v2) (V c main_v3) (i 0) (i 1) (i 2)) hemb).symm

/-- The feature array, channel by channel, after the grid. -/
theorem arr4 : (dat0 V c).arrAt 4 cfg0.N
    = fun i : S8x112x3136.Idx => feat (V c main_v1) (V c main_v2) (V c main_v3) (i 0) (i 2) (i 1) := by
  refine Dat.arrAt_eq_of_covers (dat0 V c) 4 _ (by decide +kernel) fun t _ y => ?_
  obtain ⟨e0, e1, e2⟩ := (maps0 t).2.2.2.2
  rw [after0_4]
  have ht : t.val < 8 := points0 ▸ t.isLt
  idx_vars y
  obtain rfl : y0 = 0 := Subsingleton.elim _ _
  have hemb : ((cfg0.win 4).blk t).view.emb (ix3 0 y1 y2 : S1x112x3136.Idx) = (ix3 ⟨t.val, ht⟩ y1 y2 : S8x112x3136.Idx) := by
    funext a; apply Fin.ext
    match a with
    | ⟨0, _⟩ => show win0_4.index t (0 : Fin 3) * 1 + 1 * 0 = t.val; omega
    | ⟨1, _⟩ => show win0_4.index t (1 : Fin 3) * 112 + 1 * y1.val = y1.val; omega
    | ⟨2, _⟩ => show win0_4.index t (2 : Fin 3) * 3136 + 1 * y2.val = y2.val; omega
  have hv : out0_4 (iblk0 V c 0 t) (iblk0 V c 1 t) (iblk0 V c 2 t) (ix3 0 y1 y2 : S1x112x3136.Idx)
      = feat (V c main_v1) (V c main_v2) (V c main_v3) ⟨t.val, ht⟩ y2 y1 :=
    (out4_apply _ _ _ _ _).trans (block_feat V c t ⟨t.val, ht⟩ rfl _ _)
  refine (cast_eq _ _).trans ?_
  have hx : (cfg0.win 4).xinj (grid0.coords t) (ix3 0 y1 y2 : S1x112x3136.Idx) = (ix3 0 y1 y2 : S1x112x3136.Idx) := by
    funext a; apply Fin.ext; rfl
  refine (congrArg (out0_4 (iblk0 V c 0 t) (iblk0 V c 1 t) (iblk0 V c 2 t)) hx).trans ?_
  refine hv.trans ?_
  exact (congrArg (fun i : S8x112x3136.Idx => feat (V c main_v1) (V c main_v2) (V c main_v3) (i 0) (i 2) (i 1)) hemb).symm

end

end Cert.KernelIdeal.Phi

end
-- ==== Proof.KernelHost.lean ====
/- What the host operations around the two kernels hand on: the projection kernel's three inputs as functions of the
   argument arrays, and the two results as functions of the kernels' output arrays. -/
module

public import proofs.«01_k».proof.Proof.KernelArrays

@[expose] public section

set_option maxRecDepth 16384

noncomputable section

namespace Cert.KernelIdeal.Phi

open Idealize.ShloMosaic Idealize.ShloMosaic.TcCoe Idealize.ShloMosaic.Tactic Cert.KernelIdeal.Gen

variable (m : (ℓ : Loc nD τ sig) → Buf (Elt Ideal) ℓ) (ρ : Dev nD → PrngReg) (c : Dev nD)

/-- The picture array: channels last, pixels in one axis. -/
theorem V1_x : V1 m ρ c main_v1 = shapeCast S8x3136x1792
    (transpose S1x8x56x56x1792 [0, 1, 3, 4, 2] (m ((c.tc : Thread nD τ).loc main_arg0) : Vec Ideal S1x8x1792x56x56 .f32)
      transposes_S1x8x1792x56x56_S1x8x56x56x1792_0_1_3_4_2) shapeCasts_S1x8x56x56x1792_S8x3136x1792 := by
  unfold_abbrev_sides
  after_results
  rfl

/-- The weights, transposed. -/
theorem V1_w : V1 m ρ c main_v2 = transpose S1792x112 [1, 0] (m ((c.tc : Thread nD τ).loc main_arg1) : Vec Ideal S112x1792 .f32)
    transposes_S112x1792_S1792x112_1_0 := by
  unfold_abbrev_sides
  after_results

/-- The bias, as a row. -/
theorem V1_b : V1 m ρ c main_v3 = broadcastInDim S1x112 ![1] bcast_S112_S1x112_1 (m ((c.tc : Thread nD τ).loc main_arg2) : Vec Ideal S112 .f32) := by
  unfold_abbrev_sides
  after_results

/-- The first result: the score array, reshaped to pictures. -/
theorem W4_score : W4 m ρ c (Proc.devRef .tc main_v6) = shapeCast S8x1x56x56 (W3 m ρ c (Proc.devRef .tc main_v5) : Vec Ideal S16x1568x1 .f32)
    shapeCasts_S16x1568x1_S8x1x56x56 := by
  unfold_abbrev_sides
  after_results
  rfl

/-- The second result: the features, pixels first. -/
theorem W4_phi : W4 m ρ c (Proc.devRef .tc main_v7) = transpose S8x3136x112 [0, 2, 1] (W3 m ρ c (Proc.devRef .tc main_v4_1) : Vec Ideal S8x112x3136 .f32)
    transposes_S8x112x3136_S8x3136x112_0_2_1 := by
  unfold_abbrev_sides
  after_results

/-- The row of pixel `q` in its picture. -/
def row (q : Fin 3136) : Fin 56 := ⟨q.val / 56, by omega⟩

/-- The column of pixel `q` in its picture. -/
def col (q : Fin 3136) : Fin 56 := ⟨q.val % 56, by omega⟩

/-- Channel `o` of the projection of picture `n` at pixel `q`, from the argument arrays. -/
def lin (p : Vec Ideal S1x8x1792x56x56 .f32) (w : Vec Ideal S112x1792 .f32) (n : Fin 8) (o : Fin 112) (q : Fin 3136) : EReal :=
  ∑ c : Fin 1792, p (ix5 0 n c (row q) (col q)) * w (ix2 o c)

/-- The kernel's feature of picture `n` at pixel `q`, channel `o`, from the argument arrays. -/
def phi (p : Vec Ideal S1x8x1792x56x56 .f32) (w : Vec Ideal S112x1792 .f32) (b : Vec Ideal S112 .f32)
    (n : Fin 8) (q : Fin 3136) (o : Fin 112) : EReal :=
  down (across (lin p w n o)) q * ((1 / 9 : ℝ) : EReal) + b (ix1 o)

/-- The picture array at an element. -/
theorem cast_apply (p : Vec Ideal S1x8x1792x56x56 .f32) (n : Fin 8) (q : Fin 3136) (k : Fin 1792) :
    shapeCast S8x3136x1792 (transpose S1x8x56x56x1792 [0, 1, 3, 4, 2] p
      transposes_S1x8x1792x56x56_S1x8x56x56x1792_0_1_3_4_2) shapeCasts_S1x8x56x56x1792_S8x3136x1792 (ix3 n q k)
      = p (ix5 0 n k (row q) (col q)) := by
  pointwise
  rfl

/-- The features from the projection kernel's inputs are the features from the argument arrays. -/
theorem feat_eq (n : Fin 8) (q : Fin 3136) (o : Fin 112) :
    feat (V1 m ρ c main_v1) (V1 m ρ c main_v2) (V1 m ρ c main_v3) n q o
      = phi (m ((c.tc : Thread nD τ).loc main_arg0)) (m ((c.tc : Thread nD τ).loc main_arg1))
          (m ((c.tc : Thread nD τ).loc main_arg2)) n q o := by
  have hm : mix (V1 m ρ c main_v1) (V1 m ρ c main_v2) n o
      = lin (m ((c.tc : Thread nD τ).loc main_arg0)) (m ((c.tc : Thread nD τ).loc main_arg1)) n o := by
    funext q
    unfold mix lin
    refine Finset.sum_congr rfl fun k _ => ?_
    rw [V1_x, V1_w, cast_apply]
    congr 1
    pointwise
  have hb : (V1 m ρ c main_v3 : Vec Ideal S1x112 .f32) (ix2 0 o)
      = (m ((c.tc : Thread nD τ).loc main_arg2) : Vec Ideal S112 .f32) (ix1 o) := by
    rw [V1_b]
    pointwise
  unfold feat phi
  rw [hm, hb]

/-- The feature array entering the distance kernel. -/
theorem V2_feat : V2 m ρ c main_v4_0 = fun i : S8x3136x112.Idx =>
    phi (m ((c.tc : Thread nD τ).loc main_arg0)) (m ((c.tc : Thread nD τ).loc main_arg1))
      (m ((c.tc : Thread nD τ).loc main_arg2)) (i 0) (i 1) (i 2) := by
  refine ((W2_arr m ρ c 3).trans (arr3 (V1 m ρ) c)).trans (funext fun i => feat_eq m ρ c _ _ _)

/-- The codebook entering the distance kernel is the argument. -/
theorem V2_code : V2 m ρ c main_arg3 = m ((c.tc : Thread nD τ).loc main_arg3) :=
  W2_args m ρ c main_arg3 (by decide)

/-- The second result at an element. -/
theorem phi_result (n : Fin 8) (q : Fin 3136) (o : Fin 112) :
    (W4 m ρ c (Proc.devRef .tc main_v7) : Vec Ideal S8x3136x112 .f32) (ix3 n q o)
      = phi (m ((c.tc : Thread nD τ).loc main_arg0)) (m ((c.tc : Thread nD τ).loc main_arg1))
          (m ((c.tc : Thread nD τ).loc main_arg2)) n q o := by
  rw [W4_phi, W3_of_ne m ρ c main_v4_1 (by decide), (W2_arr m ρ c 4).trans (arr4 (V1 m ρ) c)]
  pointwise
  exact feat_eq m ρ c _ _ _

end Cert.KernelIdeal.Phi

end
-- ==== Proof.RefPhi.lean ====
module

public import Idealize.ShloMosaic.Lib.Pointwise
public import proofs.«01_k».proof.Proof.Gen.ReferenceIdeal.Read
public import proofs.«01_k».proof.Proof.KernelHost

@[expose] public section

set_option maxRecDepth 16384

noncomputable section

namespace Cert.ReferenceIdeal.Score

open Idealize.ShloMosaic Cert.ReferenceIdeal.Read

/-- A picture padded by one row and one column of zeros on every side, read in padded coordinates. -/
def tap (X : Fin 56 → Fin 56 → EReal) (y x : ℕ) : EReal :=
  if h : (1 ≤ y ∧ y - 1 < 56) ∧ (1 ≤ x ∧ x - 1 < 56) then X ⟨y - 1, h.1.2⟩ ⟨x - 1, h.2.2⟩ else 0

/-- The sum over the three by three window around a pixel. -/
def around (X : Fin 56 → Fin 56 → EReal) (y x : Fin 56) : EReal :=
  0 + tap X y.val x.val + tap X y.val (x.val + 1) + tap X y.val (x.val + 2)
    + tap X (y.val + 1) x.val + tap X (y.val + 1) (x.val + 1) + tap X (y.val + 1) (x.val + 2)
    + tap X (y.val + 2) x.val + tap X (y.val + 2) (x.val + 1) + tap X (y.val + 2) (x.val + 2)

/-- The window's shape. -/
abbrev Win : Shape := ⟨4, ![1, 1, 3, 3]⟩

theorem win_at : ∀ k : Fin Win.numel, (Win.rowMajor.symm k 0).val = 0 ∧ (Win.rowMajor.symm k 1).val = 0
    ∧ (Win.rowMajor.symm k 2).val = k.val / 3 ∧ (Win.rowMajor.symm k 3).val = k.val % 3 := by
  decide +kernel

/-- One step of the window sum. -/
theorem step_eq (v : Vec Ideal S8x1792x56x56 .f32) (n : Fin 8) (c : Fin 1792) (y x : Fin 56) (k : Fin Win.numel) :
    (if hin : ∀ a : Fin 4, (![0, 0, 1, 1] : Fin 4 → ℕ) a ≤ ((ix4 n c y x : S8x1792x56x56.Idx) a).val * (![1, 1, 1, 1] : Fin 4 → ℕ) a
          + (Win.rowMajor.symm k a).val
        ∧ ((ix4 n c y x : S8x1792x56x56.Idx) a).val * (![1, 1, 1, 1] : Fin 4 → ℕ) a + (Win.rowMajor.symm k a).val
          - (![0, 0, 1, 1] : Fin 4 → ℕ) a < S8x1792x56x56.size a
      then v (fun a => ⟨((ix4 n c y x : S8x1792x56x56.Idx) a).val * (![1, 1, 1, 1] : Fin 4 → ℕ) a + (Win.rowMajor.symm k a).val
          - (![0, 0, 1, 1] : Fin 4 → ℕ) a, (hin a).2⟩) else (0 : EReal))
      = tap (fun y' x' => v (ix4 n c y' x')) (y.val + k.val / 3) (x.val + k.val % 3) := by
  obtain ⟨h0, h1, h2, h3⟩ := win_at k
  generalize hP : (fun a : Fin 4 => ((ix4 n c y x : S8x1792x56x56.Idx) a).val * (![1, 1, 1, 1] : Fin 4 → ℕ) a
    + (Win.rowMajor.symm k a).val) = P
  have hP' := fun a => congrFun hP a
  simp only at hP'
  simp only [hP']
  have e0 : P 0 = n.val := (hP' 0).symm.trans (by rw [h0]; exact (Nat.add_zero _).trans (Nat.mul_one _))
  have e1 : P 1 = c.val := (hP' 1).symm.trans (by rw [h1]; exact (Nat.add_zero _).trans (Nat.mul_one _))
  have e2 : P 2 = y.val + k.val / 3 := (hP' 2).symm.trans (by rw [h2]; exact congrArg (· + k.val / 3) (Nat.mul_one _))
  have e3 : P 3 = x.val + k.val % 3 := (hP' 3).symm.trans (by rw [h3]; exact congrArg (· + k.val % 3) (Nat.mul_one _))
  unfold tap
  by_cases hc : (1 ≤ y.val + k.val / 3 ∧ y.val + k.val / 3 - 1 < 56) ∧ (1 ≤ x.val + k.val % 3 ∧ x.val + k.val % 3 - 1 < 56)
  · have hin : ∀ a, (![0, 0, 1, 1] : Fin 4 → ℕ) a ≤ P a ∧ P a - (![0, 0, 1, 1] : Fin 4 → ℕ) a < S8x1792x56x56.size a := by
      intro a
      fin_cases a
      · exact ⟨Nat.zero_le _, by show P 0 - 0 < 8; have := n.isLt; omega⟩
      · exact ⟨Nat.zero_le _, by show P 1 - 0 < 1792; have := c.isLt; omega⟩
      · exact ⟨by show 1 ≤ P 2; omega, by show P 2 - 1 < 56; omega⟩
      · exact ⟨by show 1 ≤ P 3; omega, by show P 3 - 1 < 56; omega⟩
    rw [dif_pos hin, dif_pos hc]
    congr 1
    funext a
    apply Fin.ext
    fin_cases a
    · show P 0 - 0 = n.val; omega
    · show P 1 - 0 = c.val; omega
    · show P 2 - 1 = y.val + k.val / 3 - 1; omega
    · show P 3 - 1 = x.val + k.val % 3 - 1; omega
  · rw [dif_neg, dif_neg hc]
    intro hin
    have a2 := hin 2
    have a3 := hin 3
    change 1 ≤ P 2 ∧ P 2 - 1 < 56 at a2
    change 1 ≤ P 3 ∧ P 3 - 1 < 56 at a3
    omega

variable (p : Vec Ideal S1x8x1792x56x56 .f32) (w : Vec Ideal S112x1792 .f32) (b : Vec Ideal S112 .f32)
  (C : Vec Ideal S112x3136 .f32)

theorem zero_word : Ideal.ofBits FTy.f32 0x00000000#32 = (0 : EReal) := by
  simp [Ideal.ofBits, Ideal.ieee, -EReal.coe_mul]

theorem nine_word : Ideal.ofBits FTy.f32 0x41100000#32 = ((9 : ℝ) : EReal) := by
  simp [Ideal.ofBits, Ideal.ieee, -EReal.coe_mul]; norm_num

theorem v0_at (n : Fin 8) (c : Fin 1792) (y x : Fin 56) : val_main_v0 p (ix4 n c y x) = p (ix5 0 n c y x) := by
  pointwise [val_main_v0]

/-- The reference's window sum at an element. -/
theorem v2_at (n : Fin 8) (c : Fin 1792) (y x : Fin 56) :
    val_main_v2 p (ix4 n c y x) = around (fun y' x' => p (ix5 0 n c y' x')) y x := by
  have hz : (val_main_v1 (F := Ideal)) (Shape.Idx.first Gen.h_S_) = (0 : EReal) := zero_word
  show Host.reduceWindow (fun a b : EReal => a + b) ![1, 1, 3, 3] ![1, 1, 1, 1] ![0, 0, 1, 1] ![0, 0, 1, 1] (val_main_v0 (F := Ideal) p)
    (fun _ : (⟨0, ![]⟩ : Shape).Idx => (val_main_v1 (F := Ideal)) (Shape.Idx.first Gen.h_S_))
    Gen.reduceWindows_S8x1792x56x56_S8x1792x56x56_w1s1p0_0_w1s1p0_0_w3s1p1_1_w3s1p1_1 (by decide) (ix4 n c y x) = _
  rw [hz]
  unfold Host.reduceWindow
  have hl : List.finRange Win.numel = [(0 : Fin 9), 1, 2, 3, 4, 5, 6, 7, 8] :=
    (show List.finRange 9 = [(0 : Fin 9), 1, 2, 3, 4, 5, 6, 7, 8] by decide)
  refine (congrArg (List.foldl _ _) hl).trans ?_
  simp only [List.foldl_cons, List.foldl_nil]
  have hs := step_eq (val_main_v0 (F := Ideal) p) n c y x
  have hv : (fun y' x' => val_main_v0 (F := Ideal) p (ix4 n c y' x')) = fun y' x' => p (ix5 0 n c y' x') := by
    funext y' x'; exact v0_at p n c y' x'
  rw [hv] at hs
  unfold around
  exact congr (congrArg _ (congr (congrArg _ (congr (congrArg _ (congr (congrArg _ (congr (congrArg _ (congr (congrArg _
    (congr (congrArg _ (congr (congrArg _ (congrArg (fun t : EReal => 0 + t) (hs (0 : Fin 9)))) (hs (1 : Fin 9)))) (hs (2 : Fin 9))))
    (hs (3 : Fin 9)))) (hs (4 : Fin 9)))) (hs (5 : Fin 9)))) (hs (6 : Fin 9)))) (hs (7 : Fin 9)))) (hs (8 : Fin 9))

/-- The reference's feature at an element. -/
theorem v11_at (n : Fin 8) (q : Fin 3136) (o : Fin 112) :
    val_main_v11 p w b (ix3 n q o)
      = ∑ c : Fin 1792, w (ix2 o c) * Ideal.div (around (fun y x => p (ix5 0 n c y x)) (Cert.KernelIdeal.Phi.row q)
          (Cert.KernelIdeal.Phi.col q)) ((9 : ℝ) : EReal) + b (ix1 o) := by
  have h9 : ∀ i, val_main_cst_0 (F := Ideal) i = ((9 : ℝ) : EReal) := fun _ => nine_word
  pointwise [val_main_v11, val_main_v10, val_main_v9, val_main_v8, val_main_v7, val_main_v6, val_main_v5, val_main_v4, val_main_v3]
  simp only [h9, v2_at]
  rfl

end Cert.ReferenceIdeal.Score

end
-- ==== Proof.PhiEq.lean ====
/- On finite arguments the kernel's features are the reference's: the projection exchanged with the window sum. -/
module

public import proofs.«01_k».proof.Proof.RefPhi

@[expose] public section

set_option maxRecDepth 16384

noncomputable section

namespace Cert.ReferenceIdeal.Score

open Idealize.ShloMosaic Cert.ReferenceIdeal.Read Cert.KernelIdeal.Phi

theorem tap_zero (X : Fin 56 → Fin 56 → EReal) (y x : ℕ)
    (h : ¬((1 ≤ y ∧ y - 1 < 56) ∧ (1 ≤ x ∧ x - 1 < 56))) : tap X y x = 0 := dif_neg h

theorem tap_pixel (X : Fin 56 → Fin 56 → EReal) (y x : ℕ) (q : Fin 3136) (hy : y = q.val / 56 + 1) (hx : x = q.val % 56 + 1) :
    tap X y x = X (row q) (col q) := by
  have := q.isLt
  unfold tap
  rw [dif_pos ⟨⟨by omega, by omega⟩, ⟨by omega, by omega⟩⟩]
  congr 1
  · exact Fin.ext (show y - 1 = q.val / 56 by omega)
  · exact Fin.ext (show x - 1 = q.val % 56 by omega)

/-- The sum along the row, in padded coordinates. -/
theorem across_tap (X : Fin 56 → Fin 56 → EReal) (q : Fin 3136) :
    across (fun q => X (row q) (col q)) q
      = tap X (q.val / 56 + 1) (q.val % 56 + 1) + tap X (q.val / 56 + 1) (q.val % 56) + tap X (q.val / 56 + 1) (q.val % 56 + 2) := by
  have := q.isLt
  unfold across
  congr 1
  · congr 1
    · exact (tap_pixel X _ _ q rfl rfl).symm
    · split_ifs with h
      · exact (tap_zero X _ _ (by omega)).symm
      · refine (tap_pixel X _ _ (turn 1 q) ?_ ?_).symm <;> simp only [turn] <;> omega
  · split_ifs with h
    · exact (tap_zero X _ _ (by omega)).symm
    · refine (tap_pixel X _ _ (turn 3135 q) ?_ ?_).symm <;> simp only [turn] <;> omega

/-- The sum over a pixel and its neighbours is the window sum. -/
theorem down_across (X : Fin 56 → Fin 56 → EReal) (q : Fin 3136) :
    down (across (fun q => X (row q) (col q))) q = around X (row q) (col q) := by
  have := q.isLt
  have up : (if q.val < 56 then 0 else across (fun q => X (row q) (col q)) (turn 56 q))
      = tap X (q.val / 56) (q.val % 56 + 1) + tap X (q.val / 56) (q.val % 56) + tap X (q.val / 56) (q.val % 56 + 2) := by
    split_ifs with h
    · rw [tap_zero X _ _ (by omega), tap_zero X _ _ (by omega), tap_zero X _ _ (by omega)]; simp
    · rw [across_tap]
      have e1 : (turn 56 q).val / 56 + 1 = q.val / 56 := by simp only [turn]; omega
      have e2 : (turn 56 q).val % 56 = q.val % 56 := by simp only [turn]; omega
      rw [e1, e2]
  have lo : (if 3080 ≤ q.val then 0 else across (fun q => X (row q) (col q)) (turn 3080 q))
      = tap X (q.val / 56 + 2) (q.val % 56 + 1) + tap X (q.val / 56 + 2) (q.val % 56) + tap X (q.val / 56 + 2) (q.val % 56 + 2) := by
    split_ifs with h
    · rw [tap_zero X _ _ (by omega), tap_zero X _ _ (by omega), tap_zero X _ _ (by omega)]; simp
    · rw [across_tap]
      have e1 : (turn 3080 q).val / 56 + 1 = q.val / 56 + 2 := by simp only [turn]; omega
      have e2 : (turn 3080 q).val % 56 = q.val % 56 := by simp only [turn]; omega
      rw [e1, e2]
  unfold down around
  rw [up, lo, across_tap]
  show _ = 0 + tap X (q.val / 56) (q.val % 56) + tap X (q.val / 56) (q.val % 56 + 1) + tap X (q.val / 56) (q.val % 56 + 2)
    + tap X (q.val / 56 + 1) (q.val % 56) + tap X (q.val / 56 + 1) (q.val % 56 + 1) + tap X (q.val / 56 + 1) (q.val % 56 + 2)
    + tap X (q.val / 56 + 2) (q.val % 56) + tap X (q.val / 56 + 2) (q.val % 56 + 1) + tap X (q.val / 56 + 2) (q.val % 56 + 2)
  rw [zero_add]
  ac_rfl

/-- The neighbours' sum of a sum over the channels is the sum of the channels' neighbours' sums. -/
theorem down_sum {ι : Type} [Fintype ι] (F : ι → Fin 3136 → EReal) (q : Fin 3136) :
    down (across (fun q => ∑ c, F c q)) q = ∑ c, down (across (F c)) q := by
  have h1 : ∀ q, across (fun q => ∑ c, F c q) q = ∑ c, across (F c) q := by
    intro q
    unfold across
    rw [Finset.sum_add_distrib, Finset.sum_add_distrib]
    split_ifs <;> simp
  unfold down
  simp only [h1]
  rw [Finset.sum_add_distrib, Finset.sum_add_distrib]
  split_ifs <;> simp

/-- A picture of finite entries has finite window sums, and scaling the entries scales them. -/
theorem around_real (X : Fin 56 → Fin 56 → ℝ) (w : ℝ) (y x : Fin 56) :
    ∃ s : ℝ, around (fun y x => (X y x : EReal)) y x = s ∧ around (fun y x => (X y x : EReal) * (w : EReal)) y x = ((s * w : ℝ) : EReal) := by
  have ht : ∀ y x : ℕ, ∃ t : ℝ, tap (fun y x => (X y x : EReal)) y x = t
      ∧ tap (fun y x => (X y x : EReal) * (w : EReal)) y x = ((t * w : ℝ) : EReal) := by
    intro y x
    unfold tap
    split_ifs with h
    · exact ⟨_, rfl, (EReal.coe_mul _ _).symm⟩
    · exact ⟨0, by simp, by simp⟩
  choose t ht1 ht2 using ht
  unfold around
  simp only [ht1, ht2]
  refine ⟨0 + t y.val x.val + t y.val (x.val + 1) + t y.val (x.val + 2)
    + t (y.val + 1) x.val + t (y.val + 1) (x.val + 1) + t (y.val + 1) (x.val + 2)
    + t (y.val + 2) x.val + t (y.val + 2) (x.val + 1) + t (y.val + 2) (x.val + 2), by push_cast; rfl, ?_⟩
  rw [show (0 : EReal) = ((0 : ℝ) : EReal) from rfl]
  simp only [← EReal.coe_add]
  congr 1
  ring

/-- A finite sum of real numbers, taken as extended reals. -/
theorem coe_sum {ι : Type} [Fintype ι] (f : ι → ℝ) : ∑ c, ((f c : ℝ) : EReal) = ((∑ c, f c : ℝ) : EReal) := by
  classical
  induction (Finset.univ : Finset ι) using Finset.induction_on with
  | empty => simp
  | insert a s h ih => rw [Finset.sum_insert h, Finset.sum_insert h, ih, EReal.coe_add]

/-- On finite features and weights the kernel's descriptor is the reference's: a real number and the bias. -/
theorem phi_eq (p : Vec Ideal S1x8x1792x56x56 .f32) (w : Vec Ideal S112x1792 .f32) (b : Vec Ideal S112 .f32)
    (hp : ∀ i, ∃ r : ℝ, p i = (r : EReal)) (hw : ∀ i, ∃ r : ℝ, w i = (r : EReal))
    (n : Fin 8) (q : Fin 3136) (o : Fin 112) :
    phi p w b n q o = val_main_v11 p w b (ix3 n q o) ∧ ∃ r : ℝ, phi p w b n q o = (r : EReal) + b (ix1 o) := by
  choose P hP using hp
  choose W hW using hw
  have hs := fun c : Fin 1792 => around_real (fun y x => P (ix5 0 n c y x)) (W (ix2 o c)) (row q) (col q)
  choose s hs1 hs2 using hs
  have h1 : phi p w b n q o = (((∑ c, s c * W (ix2 o c)) * (1 / 9) : ℝ) : EReal) + b (ix1 o) := by
    unfold phi lin
    rw [down_sum]
    have : ∀ c : Fin 1792, down (across (fun q => p (ix5 0 n c (row q) (col q)) * w (ix2 o c))) q = ((s c * W (ix2 o c) : ℝ) : EReal) := by
      intro c
      rw [← hs2, down_across (fun y x => p (ix5 0 n c y x) * w (ix2 o c)) q]
      simp only [hP, hW]
    simp only [this]
    rw [coe_sum, ← EReal.coe_mul]
  refine ⟨?_, _, h1⟩
  rw [h1, v11_at]
  have : ∀ c : Fin 1792, w (ix2 o c) * Ideal.div (around (fun y x => p (ix5 0 n c y x)) (row q) (col q)) ((9 : ℝ) : EReal)
      = ((W (ix2 o c) * (s c / 9) : ℝ) : EReal) := by
    intro c
    simp only [hP, hW]
    rw [hs1, Ideal.div_coe (by norm_num : (9 : ℝ) ≠ 0), ← EReal.coe_mul, ← EReal.coe_mul]
    congr 2
    ring
  simp only [this]
  rw [coe_sum]
  congr 2
  rw [Finset.sum_mul]
  exact Finset.sum_congr rfl fun c _ => by ring

end Cert.ReferenceIdeal.Score

end
-- ==== Proof.Select.lean ====
/- Three nearest of many: the insertion network that keeps the three least values it has met, and the three rounds of
   "least, then the least of what is strictly greater" that read three apart values off a list. Pure order theory over the
   extended reals: no program is mentioned. -/
module

public import Idealize.ShloMosaic.PureOps.Ideal
public import Mathlib.Data.EReal.Basic
public import Mathlib.Data.Finset.Fold
public import Mathlib.Data.Finset.Lattice.Fold

@[expose] public section

noncomputable section

namespace Cert.Near

/-- `Kept n u a b c`: among the values `u 0, …, u (n - 1)`, the three `a ≤ b ≤ c` sit at three different positions and no
    other position holds a value below `c`. -/
def Kept (n : ℕ) (u : ℕ → EReal) (a b c : EReal) : Prop :=
  ∃ i j k : ℕ, i < n ∧ j < n ∧ k < n ∧ i ≠ j ∧ i ≠ k ∧ j ≠ k ∧ u i = a ∧ u j = b ∧ u k = c ∧ a ≤ b ∧ b ≤ c ∧
    ∀ l, l < n → l ≠ i → l ≠ j → l ≠ k → c ≤ u l

/-- Three values `⊤` are kept at the start, from three positions that hold `⊤`. -/
theorem Kept.start (u : ℕ → EReal) (h0 : u 0 = ⊤) (h1 : u 1 = ⊤) (h2 : u 2 = ⊤) : Kept 3 u ⊤ ⊤ ⊤ :=
  ⟨0, 1, 2, by omega, by omega, by omega, by omega, by omega, by omega, h0, h1, h2, le_refl _, le_refl _, fun l => by omega⟩

/-- One round of the network: the new value sinks through the three kept ones by a maximum and a minimum each. -/
theorem Kept.step {n : ℕ} {u : ℕ → EReal} {a b c : EReal} (h : Kept n u a b c) (v : EReal) (hv : u n = v) :
    Kept (n + 1) u (min a v) (min b (max a v)) (min c (max b (max a v))) := by
  obtain ⟨i, j, k, hi, hj, hk, hij, hik, hjk, ha, hb, hc, hab, hbc, hl⟩ := h
  subst hv
  rcases le_total (u n) a with h1 | h1
  · -- below all three: the greatest kept value is dropped
    rw [min_eq_right h1, max_eq_left h1, min_eq_right hab, max_eq_left hab, min_eq_right hbc]
    refine ⟨n, i, j, by omega, by omega, by omega, by omega, by omega, hij, rfl, ha, hb, h1, hab, fun l h2 h3 h4 h5 => ?_⟩
    by_cases h6 : l = k
    · rw [h6, hc]; exact hbc
    · exact hbc.trans (hl l (by omega) h4 h5 h6)
  · rw [min_eq_left h1, max_eq_right h1]
    rcases le_total (u n) b with h2 | h2
    · rw [min_eq_right h2, max_eq_left h2, min_eq_right hbc]
      refine ⟨i, n, j, by omega, by omega, by omega, by omega, hij, by omega, ha, rfl, hb, h1, h2, fun l h3 h4 h5 h6 => ?_⟩
      by_cases h7 : l = k
      · rw [h7, hc]; exact hbc
      · exact hbc.trans (hl l (by omega) h4 h6 h7)
    · rw [min_eq_left h2, max_eq_right h2]
      rcases le_total (u n) c with h3 | h3
      · rw [min_eq_right h3]
        refine ⟨i, j, n, by omega, by omega, by omega, hij, by omega, by omega, ha, hb, rfl, hab, h2, fun l h4 h5 h6 h7 => ?_⟩
        by_cases h8 : l = k
        · rw [h8, hc]; exact h3
        · exact h3.trans (hl l (by omega) h5 h6 h8)
      · rw [min_eq_left h3]
        refine ⟨i, j, k, by omega, by omega, by omega, hij, hik, hjk, ha, hb, hc, hab, hbc, fun l h4 h5 h6 h7 => ?_⟩
        by_cases h8 : l = n
        · rw [h8]; exact h3
        · exact hl l (by omega) h5 h6 h7

/-- The kept values of a network run over `f 0, …, f (n - 1)`, starting from three values `⊤`. -/
def net (f : ℕ → EReal) : ℕ → EReal × EReal × EReal
  | 0 => (⊤, ⊤, ⊤)
  | n + 1 => (min (net f n).1 (f n), min (net f n).2.1 (max (net f n).1 (f n)),
      min (net f n).2.2 (max (net f n).2.1 (max (net f n).1 (f n))))

/-- What the network has met, the three starting values first. -/
def met (f : ℕ → EReal) (i : ℕ) : EReal := if i < 3 then ⊤ else f (i - 3)

theorem net_kept (f : ℕ → EReal) (n : ℕ) : Kept (n + 3) (met f) (net f n).1 (net f n).2.1 (net f n).2.2 := by
  induction n with
  | zero => exact Kept.start _ rfl rfl rfl
  | succ n ih => exact ih.step (f n) (by unfold met; rw [if_neg (by omega)]; rfl)

/-- `Apart e a b c`: the values `a < b < c` of `e` are its three least, each of `a` and `b` met once. -/
structure Apart {ι : Type} (e : ι → EReal) (a b c : EReal) : Prop where
  ex : ∃ i j k : ι, e i = a ∧ e j = b ∧ e k = c ∧ ∀ l, l ≠ i → l ≠ j → l ≠ k → c ≤ e l
  ab : a < b
  bc : b < c
  top : c < ⊤

/-- Every kept value is `⊤` or one of the values met. -/
theorem net_mem (f : ℕ → EReal) (n : ℕ) (x : EReal) (hx : x = (net f n).1 ∨ x = (net f n).2.1 ∨ x = (net f n).2.2) :
    x = ⊤ ∨ ∃ i < n, x = f i := by
  obtain ⟨i, j, k, hi, hj, hk, -, -, -, ha, hb, hc, -⟩ := net_kept f n
  have key : ∀ i, i < n + 3 → met f i = ⊤ ∨ ∃ l < n, met f i = f l := by
    intro i hi
    unfold met
    split
    · exact Or.inl rfl
    · exact Or.inr ⟨i - 3, by omega, rfl⟩
  rcases hx with rfl | rfl | rfl
  · rw [← ha]; exact key i hi
  · rw [← hb]; exact key j hj
  · rw [← hc]; exact key k hk

/-- A value of three least apart ones that the network has met is kept: dropping it would take three other positions
    holding no more than it. `g` says which of all positions the network's positions are. -/
theorem net_keeps {ι : Type} {e : ι → EReal} {a b c : EReal} (h : Apart e a b c) (f : ℕ → EReal) (n : ℕ)
    (g : ℕ → ι) (hg : ∀ i j, i < n → j < n → g i = g j → i = j) (hf : ∀ i < n, f i = e (g i))
    (l : ℕ) (hl : l < n) (x : EReal) (hx : x = a ∨ x = b ∨ x = c) (hlx : f l = x) :
    x = (net f n).1 ∨ x = (net f n).2.1 ∨ x = (net f n).2.2 := by
  obtain ⟨i, j, k, hi, hj, hk, hij, hik, hjk, ha, hb, hc, hab, hbc, hall⟩ := net_kept f n
  obtain ⟨⟨p, q, r, hp, hq, hr, hpqr⟩, h1, h2, h3⟩ := h
  have hmet : met f (l + 3) = x := by unfold met; rw [if_neg (by omega)]; simpa using hlx
  by_cases ei : l + 3 = i
  · left; rw [← hmet, ei]; exact ha
  by_cases ej : l + 3 = j
  · right; left; rw [← hmet, ej]; exact hb
  by_cases ek : l + 3 = k
  · right; right; rw [← hmet, ek]; exact hc
  have hcx : (net f n).2.2 ≤ x := by rw [← hmet]; exact hall (l + 3) (by omega) ei ej ek
  have hxc : x ≤ c := by rcases hx with rfl | rfl | rfl; exacts [(h1.trans h2).le, h2.le, le_refl _]
  have hxt : x < ⊤ := hxc.trans_lt h3
  -- each kept position holds a value of `e`, at most `x`, at a position other than `l`'s
  have pos : ∀ m, m < n + 3 → met f m ≤ x → m ≠ l + 3 → 3 ≤ m ∧ m - 3 < n ∧ e (g (m - 3)) = met f m ∧ g (m - 3) ≠ g l := by
    intro m hm hmx hml
    have h4 : 3 ≤ m := by
      by_contra h5
      have : met f m = ⊤ := by unfold met; rw [if_pos (by omega)]
      rw [this] at hmx
      exact absurd (top_le_iff.mp hmx) hxt.ne
    refine ⟨h4, by omega, ?_, fun h5 => ?_⟩
    · unfold met; rw [if_neg (by omega)]; exact (hf _ (by omega)).symm
    · have := hg _ _ (by omega) hl h5; omega
  have hbx := hbc.trans hcx
  have hax := hab.trans hbx
  obtain ⟨i3, in', ie, il⟩ := pos i hi (ha ▸ hax) (Ne.symm ei)
  obtain ⟨j3, jn, je, jl⟩ := pos j hj (hb ▸ hbx) (Ne.symm ej)
  obtain ⟨k3, kn, ke, kl⟩ := pos k hk (hc ▸ hcx) (Ne.symm ek)
  have gij : g (i - 3) ≠ g (j - 3) := fun h => by have := hg _ _ in' jn h; omega
  have gik : g (i - 3) ≠ g (k - 3) := fun h => by have := hg _ _ in' kn h; omega
  have gjk : g (j - 3) ≠ g (k - 3) := fun h => by have := hg _ _ jn kn h; omega
  have elx : e (g l) = x := by rw [← hf l hl]; exact hlx
  -- a position below `c` is the first or the second
  have low : ∀ m : ι, e m < c → m = p ∨ m = q := by
    intro m hm
    by_cases e1 : m = p
    · exact Or.inl e1
    by_cases e2 : m = q
    · exact Or.inr e2
    by_cases e3 : m = r
    · exact absurd hm (by rw [e3, hr]; exact lt_irrefl _)
    exact absurd (hpqr m e1 e2 e3) (not_le.mpr hm)
  have lowa : ∀ m : ι, e m < b → m = p := by
    intro m hm
    rcases low m (hm.trans h2) with h | h
    · exact h
    · exact absurd hm (by rw [h, hq]; exact lt_irrefl _)
  rw [ha] at ie; rw [hb] at je; rw [hc] at ke
  rcases hx with rfl | rfl | rfl
  · have e1 := lowa (g l) (by rw [elx]; exact h1)
    have e2 := lowa (g (i - 3)) (by rw [ie]; exact hax.trans_lt h1)
    exact absurd (e2.trans e1.symm) il
  · have e1 := low (g l) (by rw [elx]; exact h2)
    have e2 := low (g (i - 3)) (by rw [ie]; exact hax.trans_lt h2)
    have e3 := low (g (j - 3)) (by rw [je]; exact hbx.trans_lt h2)
    rcases e1 with e1 | e1 <;> rcases e2 with e2 | e2 <;> rcases e3 with e3 | e3 <;>
      first
        | exact absurd (e2.trans e1.symm) il
        | exact absurd (e3.trans e1.symm) jl
        | exact absurd (e2.trans e3.symm) gij
  · rcases hcx.lt_or_eq with hlt | heq
    · have e1 := low (g (i - 3)) (by rw [ie]; exact (hab.trans hbc).trans_lt hlt)
      have e2 := low (g (j - 3)) (by rw [je]; exact hbc.trans_lt hlt)
      have e3 := low (g (k - 3)) (by rw [ke]; exact hlt)
      rcases e1 with e1 | e1 <;> rcases e2 with e2 | e2 <;> rcases e3 with e3 | e3 <;>
        first
          | exact absurd (e1.trans e2.symm) gij
          | exact absurd (e1.trans e3.symm) gik
          | exact absurd (e2.trans e3.symm) gjk
    · exact Or.inr (Or.inr heq.symm)

/-- The least of `x`, or `⊤` of nothing. -/
def least {N : ℕ} (x : Fin N → EReal) : EReal := Finset.univ.fold min ⊤ x

theorem least_eq {N : ℕ} (x : Fin N → EReal) (a : EReal) (hin : ∃ i, x i = a) (hle : ∀ i, a ≤ x i) : least x = a := by
  obtain ⟨i, hi⟩ := hin
  apply le_antisymm
  · rw [← hi]
    exact (Finset.le_fold_min (least x)).mp (le_refl _) |>.2 i (Finset.mem_univ i)
  · exact (Finset.le_fold_min a).mpr ⟨le_top, fun i _ => hle i⟩

/-- The least is below every value. -/
theorem least_le {N : ℕ} (x : Fin N → EReal) (i : Fin N) : least x ≤ x i :=
  (Finset.le_fold_min (least x)).mp (le_refl _) |>.2 i (Finset.mem_univ i)

/-- The network's first value is below every value met. -/
theorem net_below (f : ℕ → EReal) (n i : ℕ) (h : i < n) : (net f n).1 ≤ f i := by
  induction n with
  | zero => omega
  | succ n ih =>
    by_cases e : i = n
    · rw [e]; exact min_le_right _ _
    · exact (min_le_left _ _).trans (ih (by omega))

/-- What is strictly greater than `m`, the rest replaced by `⊤`. -/
def above (m x : EReal) : EReal := if m < x then x else ⊤

/-- Three rounds of "the least, then only what is strictly greater" over a list that holds the three least apart values of
    `e` and otherwise values of `e` and `⊤` give those three values. -/
theorem three_rounds {ι : Type} {e : ι → EReal} {a b c : EReal} (h : Apart e a b c) {N : ℕ} (x : Fin N → EReal)
    (hx : ∀ i, x i = ⊤ ∨ ∃ l, x i = e l) (ha : ∃ i, x i = a) (hb : ∃ i, x i = b) (hc : ∃ i, x i = c) :
    least x = a ∧ least (fun i => above a (x i)) = b ∧ least (fun i => above b (above a (x i))) = c := by
  obtain ⟨⟨p, q, r, hp, hq, hr, hpqr⟩, h1, h2, h3⟩ := h
  have tri : ∀ i, x i = a ∨ x i = b ∨ c ≤ x i := by
    intro i
    rcases hx i with ht | ⟨l, hl⟩
    · right; right; rw [ht]; exact le_top
    · rw [hl]
      by_cases e1 : l = p
      · left; rw [e1, hp]
      by_cases e2 : l = q
      · right; left; rw [e2, hq]
      by_cases e3 : l = r
      · right; right; rw [e3, hr]
      exact Or.inr (Or.inr (hpqr l e1 e2 e3))
  have h13 := h1.trans h2
  refine ⟨least_eq _ _ ha fun i => ?_, least_eq _ _ ?_ fun i => ?_, least_eq _ _ ?_ fun i => ?_⟩
  · rcases tri i with h | h | h
    · exact h.ge
    · rw [h]; exact h1.le
    · exact h13.le.trans h
  · obtain ⟨i, hi⟩ := hb
    exact ⟨i, by unfold above; rw [hi, if_pos h1]⟩
  · unfold above
    rcases tri i with h | h | h
    · rw [h, if_neg (lt_irrefl _)]; exact le_top
    · rw [h, if_pos h1]
    · rw [if_pos (h13.trans_le h)]; exact h2.le.trans h
  · obtain ⟨i, hi⟩ := hc
    refine ⟨i, ?_⟩
    unfold above; rw [hi, if_pos h13, if_pos h2]
  · unfold above
    rcases tri i with h | h | h
    · rw [h, if_neg (lt_irrefl _)]; split <;> exact le_top
    · rw [h, if_pos h1, if_neg (lt_irrefl _)]; exact le_top
    · rw [if_pos (h13.trans_le h), if_pos (h2.trans_le h)]; exact h

end Cert.Near

end
-- ==== Proof.KernelNet.lean ====
/- The insertion network of the distance kernel: 24 chunks of 128 lanes, each lane keeping its three smallest in order.
   Every lane of the three kept vectors is the scalar network of the lane's 24 entries. -/
module

public import proofs.«01_k».proof.Proof.Select
public import proofs.«01_k».proof.Proof.Gen.KernelIdeal.Frame
public import Idealize.ShloMosaic.Lib.Pointwise
public import Idealize.ShloMosaic.Lib.Pipeline.Value

@[expose] public section

set_option maxRecDepth 16384

noncomputable section

namespace Cert.KernelIdeal.Score

open Idealize.ShloMosaic Cert.KernelIdeal.Gen Cert.Near

section Vectors

variable {F : FTy → Type} [FloatOps F] [Named F]

/-- The three kept vectors. -/
abbrev Trio (F : FTy → Type) := FVec F S1568x128 .f32 × FVec F S1568x128 .f32 × FVec F S1568x128 .f32

/-- The start: the large constant three times. -/
def start : Trio F := (k1_pay5, k1_pay5, k1_pay5)

/-- One chunk inserted. -/
def step (s : Trio F) (v : FVec F S1568x128 .f32) : Trio F :=
  (minimumf s.1 v, minimumf s.2.1 (maximumf s.1 v), minimumf s.2.2 (maximumf s.2.1 (maximumf s.1 v)))

/-- The three kept vectors after 5 chunks. -/
def kept5 (e : FVec F S1568x3136 .f32) : Trio F :=
  step (step (step (step (step (start)
    (extractStridedSlice S1568x128 ![0, 0] e slices_S1568x3136_o0_0_S1568x128))
    (extractStridedSlice S1568x128 ![0, 128] e slices_S1568x3136_o0_128_S1568x128))
    (extractStridedSlice S1568x128 ![0, 256] e slices_S1568x3136_o0_256_S1568x128))
    (extractStridedSlice S1568x128 ![0, 384] e slices_S1568x3136_o0_384_S1568x128))
    (extractStridedSlice S1568x128 ![0, 512] e slices_S1568x3136_o0_512_S1568x128)

/-- The three kept vectors after 15 chunks. -/
def kept15 (e : FVec F S1568x3136 .f32) : Trio F :=
  step (step (step (step (step (step (step (step (step (step (kept5 e)
    (extractStridedSlice S1568x128 ![0, 640] e slices_S1568x3136_o0_640_S1568x128))
    (extractStridedSlice S1568x128 ![0, 768] e slices_S1568x3136_o0_768_S1568x128))
    (extractStridedSlice S1568x128 ![0, 896] e slices_S1568x3136_o0_896_S1568x128))
    (extractStridedSlice S1568x128 ![0, 1024] e slices_S1568x3136_o0_1024_S1568x128))
    (extractStridedSlice S1568x128 ![0, 1152] e slices_S1568x3136_o0_1152_S1568x128))
    (extractStridedSlice S1568x128 ![0, 1280] e slices_S1568x3136_o0_1280_S1568x128))
    (extractStridedSlice S1568x128 ![0, 1408] e slices_S1568x3136_o0_1408_S1568x128))
    (extractStridedSlice S1568x128 ![0, 1536] e slices_S1568x3136_o0_1536_S1568x128))
    (extractStridedSlice S1568x128 ![0, 1664] e slices_S1568x3136_o0_1664_S1568x128))
    (extractStridedSlice S1568x128 ![0, 1792] e slices_S1568x3136_o0_1792_S1568x128)

/-- The three kept vectors after 24 chunks. -/
def kept24 (e : FVec F S1568x3136 .f32) : Trio F :=
  step (step (step (step (step (step (step (step (step (kept15 e)
    (extractStridedSlice S1568x128 ![0, 1920] e slices_S1568x3136_o0_1920_S1568x128))
    (extractStridedSlice S1568x128 ![0, 2048] e slices_S1568x3136_o0_2048_S1568x128))
    (extractStridedSlice S1568x128 ![0, 2176] e slices_S1568x3136_o0_2176_S1568x128))
    (extractStridedSlice S1568x128 ![0, 2304] e slices_S1568x3136_o0_2304_S1568x128))
    (extractStridedSlice S1568x128 ![0, 2432] e slices_S1568x3136_o0_2432_S1568x128))
    (extractStridedSlice S1568x128 ![0, 2560] e slices_S1568x3136_o0_2560_S1568x128))
    (extractStridedSlice S1568x128 ![0, 2688] e slices_S1568x3136_o0_2688_S1568x128))
    (extractStridedSlice S1568x128 ![0, 2816] e slices_S1568x3136_o0_2816_S1568x128))
    (extractStridedSlice S1568x128 ![0, 2944] e slices_S1568x3136_o0_2944_S1568x128)

/-- The sixth chunk. -/
def chunk5 (e : FVec F S1568x3136 .f32) : FVec F S1568x128 .f32 :=
  extractStridedSlice S1568x128 ![0, 640] e slices_S1568x3136_o0_640_S1568x128

/-- The sixteenth chunk. -/
def chunk15 (e : FVec F S1568x3136 .f32) : FVec F S1568x128 .f32 :=
  extractStridedSlice S1568x128 ![0, 1920] e slices_S1568x3136_o0_1920_S1568x128

/-- The last 64 columns, which no lane takes. -/
def rest (e : FVec F S1568x3136 .f32) : FVec F S1568x64 .f32 :=
  extractStridedSlice S1568x64 ![0, 3072] e slices_S1568x3136_o0_3072_S1568x64

/-! What the body's first part hands on: the second and third vectors after five chunks, the first vector and the sixth
    chunk put in order. -/

theorem part1_second (x : Vec F S1x1568x112 .f32) (w : Vec F S112x3136 .f32) : k1_pay25 x w = (kept5 (k1_pay4 x w)).2.1 := rfl
theorem part1_third (x : Vec F S1x1568x112 .f32) (w : Vec F S112x3136 .f32) : k1_pay26 x w = (kept5 (k1_pay4 x w)).2.2 := rfl
theorem part1_high (x : Vec F S1x1568x112 .f32) (w : Vec F S112x3136 .f32) :
    k1_pay28 x w = maximumf (kept5 (k1_pay4 x w)).1 (chunk5 (k1_pay4 x w)) := rfl
theorem part1_low (x : Vec F S1x1568x112 .f32) (w : Vec F S112x3136 .f32) :
    k1_pay29 x w = minimumf (kept5 (k1_pay4 x w)).1 (chunk5 (k1_pay4 x w)) := rfl

/-! What the second part hands on: the same after fifteen chunks. -/

theorem part2_second (e : FVec F S1568x3136 .f32) :
    k1_pay66 e (kept5 e).2.1 (maximumf (kept5 e).1 (chunk5 e)) (minimumf (kept5 e).1 (chunk5 e)) = (kept15 e).2.1 := rfl
theorem part2_third (e : FVec F S1568x3136 .f32) :
    k1_pay67 e (kept5 e).2.1 (kept5 e).2.2 (maximumf (kept5 e).1 (chunk5 e)) (minimumf (kept5 e).1 (chunk5 e))
      = (kept15 e).2.2 := rfl
theorem part2_high (e : FVec F S1568x3136 .f32) :
    k1_pay69 e (minimumf (kept5 e).1 (chunk5 e)) = maximumf (kept15 e).1 (chunk15 e) := rfl
theorem part2_low (e : FVec F S1568x3136 .f32) :
    k1_pay70 e (minimumf (kept5 e).1 (chunk5 e)) = minimumf (kept15 e).1 (chunk15 e) := rfl

/-- The 448 candidates: the three kept vectors after all chunks, and the rest. -/
def cands (e : FVec F S1568x3136 .f32) : FVec F S1568x448 .f32 :=
  concatenate S1568x448 1 [⟨S1568x128, (kept24 e).1⟩, ⟨S1568x128, (kept24 e).2.1⟩, ⟨S1568x128, (kept24 e).2.2⟩,
    ⟨S1568x64, rest e⟩] concatenates_S1568x128_S1568x128_S1568x128_S1568x64_S1568x448_d1

theorem part3 (e : FVec F S1568x3136 .f32) :
    k1_pay71 e (kept15 e).2.1 (kept15 e).2.2 (maximumf (kept15 e).1 (chunk15 e)) (minimumf (kept15 e).1 (chunk15 e))
      = cands e := rfl

/-- The candidates' least, as a column. -/
def firstCol (x : FVec F S1568x448 .f32) : FVec F S1568x1 .f32 :=
  shapeCast S1568x1 (multiReduction .minimumf [1] S1568 x 0x7F800000#32 reduces_S1568x448_S1568 (.inl rfl) rfl)
    shapeCasts_S1568_S1568x1

/-- The candidates greater than the least. -/
def greater (x : FVec F S1568x448 .f32) : IVec S1568x448 1 :=
  cmpf .ogt x (broadcastTo S1568x448 (firstCol x) broadcasts_S1568x1_S1568x448)

/-- The output block of the distance kernel, from the row norms and the candidates. -/
theorem out2_eq (x : Vec F S1x1568x112 .f32) (w : Vec F S112x3136 .f32) :
    out1_2 x w = k1_pay1 (k1_pay3 x) (cands (k1_pay4 x w)) (firstCol (cands (k1_pay4 x w)))
      (greater (cands (k1_pay4 x w))) k1_pay74 := by
  unfold_out out1_2
  rw [View.canon_unit_zero (by funext a; fin_cases a <;> rfl), View.ld_unit_zero (by funext a; fin_cases a <;> rfl),
    View.ld_unit_zero (by funext a; fin_cases a <;> rfl)]
  rw [part1_second, part1_third, part1_high, part1_low, part2_second, part2_third, part2_high, part2_low]
  unfold k1_pay72 k1_pay73 k1_pay72
  rw [part3]
  rfl

end Vectors

section Scalars

/-- Entry `i` of lane `l` in row `r`. -/
def lane (e : FVec Ideal S1568x3136 .f32) (r : Fin 1568) (l : Fin 128) (i : ℕ) : EReal :=
  if h : 128 * i + l.val < 3136 then e (ix2 r ⟨128 * i + l.val, h⟩) else ⊤

/-- The large constant, taken at infinity. -/
theorem big : (Named.named κ "big" 0x7149F2CA#32 : Ideal .f32) = (⊤ : EReal) :=
  IdealRules.named_const.ideal_named_scalar _ _ _ _ rfl

/-- Lane `l` of row `r` of the three vectors is the scalar network after `n` entries. -/
def Holds (e : FVec Ideal S1568x3136 .f32) (s : Trio Ideal) (n : ℕ) : Prop :=
  ∀ (r : Fin 1568) (l : Fin 128), (s.1 (ix2 r l), s.2.1 (ix2 r l), s.2.2 (ix2 r l)) = net (lane e r l) n

theorem holds_start (e : FVec Ideal S1568x3136 .f32) : Holds e start 0 := by
  intro r l
  show ((Named.named κ "big" 0x7149F2CA#32 : Ideal .f32), (Named.named κ "big" 0x7149F2CA#32 : Ideal .f32),
    (Named.named κ "big" 0x7149F2CA#32 : Ideal .f32)) = (⊤, ⊤, ⊤)
  rw [big]

theorem holds_step (e : FVec Ideal S1568x3136 .f32) (s : Trio Ideal) (n : ℕ) (v : FVec Ideal S1568x128 .f32)
    (hv : ∀ (r : Fin 1568) (l : Fin 128), v (ix2 r l) = lane e r l n) (hs : Holds e s n) : Holds e (step s v) (n + 1) := by
  intro r l
  have h := hs r l
  have h1 : s.1 (ix2 r l) = (net (lane e r l) n).1 := congrArg Prod.fst h
  have h2 : s.2.1 (ix2 r l) = (net (lane e r l) n).2.1 := congrArg (fun p => p.2.1) h
  have h3 : s.2.2 (ix2 r l) = (net (lane e r l) n).2.2 := congrArg (fun p => p.2.2) h
  show (min (s.1 (ix2 r l)) (v (ix2 r l)), min (s.2.1 (ix2 r l)) (max (s.1 (ix2 r l)) (v (ix2 r l))),
    min (s.2.2 (ix2 r l)) (max (s.2.1 (ix2 r l)) (max (s.1 (ix2 r l)) (v (ix2 r l))))) = _
  rw [h1, h2, h3, hv]
  rfl

theorem holds5 (e : FVec Ideal S1568x3136 .f32) : Holds e (kept5 e) 5 := by
  unfold kept5
  refine holds_step e _ 4 _ (fun r l => ?_) ?_
  · unfold lane; pointwise; rw [dif_pos (by omega)]
  refine holds_step e _ 3 _ (fun r l => ?_) ?_
  · unfold lane; pointwise; rw [dif_pos (by omega)]
  refine holds_step e _ 2 _ (fun r l => ?_) ?_
  · unfold lane; pointwise; rw [dif_pos (by omega)]
  refine holds_step e _ 1 _ (fun r l => ?_) ?_
  · unfold lane; pointwise; rw [dif_pos (by omega)]
  refine holds_step e _ 0 _ (fun r l => ?_) ?_
  · unfold lane; pointwise; rw [dif_pos (by omega)]
  exact holds_start e

theorem holds15 (e : FVec Ideal S1568x3136 .f32) : Holds e (kept15 e) 15 := by
  unfold kept15
  refine holds_step e _ 14 _ (fun r l => ?_) ?_
  · unfold lane; pointwise; rw [dif_pos (by omega)]
  refine holds_step e _ 13 _ (fun r l => ?_) ?_
  · unfold lane; pointwise; rw [dif_pos (by omega)]
  refine holds_step e _ 12 _ (fun r l => ?_) ?_
  · unfold lane; pointwise; rw [dif_pos (by omega)]
  refine holds_step e _ 11 _ (fun r l => ?_) ?_
  · unfold lane; pointwise; rw [dif_pos (by omega)]
  refine holds_step e _ 10 _ (fun r l => ?_) ?_
  · unfold lane; pointwise; rw [dif_pos (by omega)]
  refine holds_step e _ 9 _ (fun r l => ?_) ?_
  · unfold lane; pointwise; rw [dif_pos (by omega)]
  refine holds_step e _ 8 _ (fun r l => ?_) ?_
  · unfold lane; pointwise; rw [dif_pos (by omega)]
  refine holds_step e _ 7 _ (fun r l => ?_) ?_
  · unfold lane; pointwise; rw [dif_pos (by omega)]
  refine holds_step e _ 6 _ (fun r l => ?_) ?_
  · unfold lane; pointwise; rw [dif_pos (by omega)]
  refine holds_step e _ 5 _ (fun r l => ?_) ?_
  · unfold lane; pointwise; rw [dif_pos (by omega)]
  exact holds5 e

theorem holds24 (e : FVec Ideal S1568x3136 .f32) : Holds e (kept24 e) 24 := by
  unfold kept24
  refine holds_step e _ 23 _ (fun r l => ?_) ?_
  · unfold lane; pointwise; rw [dif_pos (by omega)]
  refine holds_step e _ 22 _ (fun r l => ?_) ?_
  · unfold lane; pointwise; rw [dif_pos (by omega)]
  refine holds_step e _ 21 _ (fun r l => ?_) ?_
  · unfold lane; pointwise; rw [dif_pos (by omega)]
  refine holds_step e _ 20 _ (fun r l => ?_) ?_
  · unfold lane; pointwise; rw [dif_pos (by omega)]
  refine holds_step e _ 19 _ (fun r l => ?_) ?_
  · unfold lane; pointwise; rw [dif_pos (by omega)]
  refine holds_step e _ 18 _ (fun r l => ?_) ?_
  · unfold lane; pointwise; rw [dif_pos (by omega)]
  refine holds_step e _ 17 _ (fun r l => ?_) ?_
  · unfold lane; pointwise; rw [dif_pos (by omega)]
  refine holds_step e _ 16 _ (fun r l => ?_) ?_
  · unfold lane; pointwise; rw [dif_pos (by omega)]
  refine holds_step e _ 15 _ (fun r l => ?_) ?_
  · unfold lane; pointwise; rw [dif_pos (by omega)]
  exact holds15 e

end Scalars

end Cert.KernelIdeal.Score

end
-- ==== Proof.KernelScore.lean ====
/- The output block of the distance kernel, read at one pixel: where the three least of the pixel's 3136 values are apart,
   the score of these three. -/
module

public import proofs.«01_k».proof.Proof.KernelNet

@[expose] public section

set_option maxRecDepth 16384

noncomputable section

namespace Cert.KernelIdeal.Score

open Idealize.ShloMosaic Cert.KernelIdeal.Gen Cert.Near

/-- The distance belonging to a value `m` of the kernel's expression, `n` the square norm of the pixel's feature. -/
def root (n m : EReal) : EReal := Ideal.sqrt (max (m + n) 0)

/-- The score of three distances. -/
def soft (d1 d2 d3 : EReal) : EReal := Ideal.div d1 (1 + Ideal.exp (d1 - d2) + Ideal.exp (d1 - d3))

/-- The kernel's value of centroid `k` at a pixel of feature `f`. -/
def val (f : Fin 112 → EReal) (w : Vec Ideal S112x3136 .f32) (k : Fin 3136) : EReal :=
  ∑ o, f o * Ideal.ofBits FTy.f32 0xC0000000#32 * w (ix2 o k) + ∑ o, w (ix2 o k) * w (ix2 o k)

theorem inf_word : Ideal.ofBits FTy.f32 0x7F800000#32 = (⊤ : EReal) := by
  simp [Ideal.ofBits, Ideal.ieee, -EReal.coe_mul]

/-- The score the body computes from the candidates `x` of a row. -/
theorem pay1_apply (n : FVec Ideal S1568x1 .f32) (x : FVec Ideal S1568x448 .f32) (r : Fin 1568) :
    k1_pay1 n x (firstCol x) (greater x) k1_pay74 (ix3 0 r 0)
      = soft (root (n (ix2 r 0)) (least fun k : Fin 448 => x (ix2 r k)))
          (root (n (ix2 r 0)) (least fun k : Fin 448 => above (least fun k : Fin 448 => x (ix2 r k)) (x (ix2 r k))))
          (root (n (ix2 r 0)) (least fun k : Fin 448 =>
            above (least fun k : Fin 448 => above (least fun k : Fin 448 => x (ix2 r k)) (x (ix2 r k)))
              (above (least fun k : Fin 448 => x (ix2 r k)) (x (ix2 r k))))) := by
  pointwise [k1_pay1, firstCol, greater, k1_pay74]
  rw [big, inf_word]
  rfl

/-- The candidates of a row. -/
theorem cands_apply (e : FVec Ideal S1568x3136 .f32) (r : Fin 1568) (k : Fin 448) :
    cands e (ix2 r k) =
      if h : k.val < 128 then (kept24 e).1 (ix2 r ⟨k.val, h⟩)
      else if h : k.val - 128 < 128 then (kept24 e).2.1 (ix2 r ⟨k.val - 128, h⟩)
      else if h : k.val - 128 - 128 < 128 then (kept24 e).2.2 (ix2 r ⟨k.val - 128 - 128, h⟩)
      else e (ix2 r ⟨3072 + (k.val - 128 - 128 - 128), by omega⟩) := by
  pointwise [cands, rest]

/-- The square norm of a row's feature. -/
theorem pay3_apply (x : Vec Ideal S1x1568x112 .f32) (r : Fin 1568) :
    k1_pay3 x (ix2 r 0) = ∑ o : Fin 112, x (ix3 0 r o) * x (ix3 0 r o) := by
  pointwise [k1_pay3, k1_pay2]

/-- The value of a row and a centroid. -/
theorem pay4_apply (x : Vec Ideal S1x1568x112 .f32) (w : Vec Ideal S112x3136 .f32) (r : Fin 1568) (k : Fin 3136) :
    k1_pay4 x w (ix2 r k) = val (fun o => x (ix3 0 r o)) w k := by
  pointwise [k1_pay4, k1_pay2]
  rfl

/-- The network's first vector on a lane. -/
theorem kept_first (e : FVec Ideal S1568x3136 .f32) (r : Fin 1568) (l : Fin 128) :
    (kept24 e).1 (ix2 r l) = (net (lane e r l) 24).1 := congrArg Prod.fst (holds24 e r l)

theorem kept_second (e : FVec Ideal S1568x3136 .f32) (r : Fin 1568) (l : Fin 128) :
    (kept24 e).2.1 (ix2 r l) = (net (lane e r l) 24).2.1 := congrArg (fun p => p.2.1) (holds24 e r l)

theorem kept_third (e : FVec Ideal S1568x3136 .f32) (r : Fin 1568) (l : Fin 128) :
    (kept24 e).2.2 (ix2 r l) = (net (lane e r l) 24).2.2 := congrArg (fun p => p.2.2) (holds24 e r l)

/-- A candidate is infinity or one of the row's values. -/
theorem cand_mem (e : FVec Ideal S1568x3136 .f32) (r : Fin 1568) (k : Fin 448) :
    cands e (ix2 r k) = ⊤ ∨ ∃ l : Fin 3136, cands e (ix2 r k) = e (ix2 r l) := by
  have key : ∀ (l : Fin 128) (x : EReal), (x = (net (lane e r l) 24).1 ∨ x = (net (lane e r l) 24).2.1
      ∨ x = (net (lane e r l) 24).2.2) → x = ⊤ ∨ ∃ l : Fin 3136, x = e (ix2 r l) := by
    intro l x hx
    rcases net_mem _ _ x hx with h | ⟨i, hi, h⟩
    · exact Or.inl h
    · right
      refine ⟨⟨128 * i + l.val, by omega⟩, ?_⟩
      rw [h]; unfold lane; rw [dif_pos]
  rw [cands_apply]
  split
  · rw [kept_first]; exact key _ _ (Or.inl rfl)
  split
  · rw [kept_second]; exact key _ _ (Or.inr (Or.inl rfl))
  split
  · rw [kept_third]; exact key _ _ (Or.inr (Or.inr rfl))
  · exact Or.inr ⟨_, rfl⟩

/-- Each of three least values apart is a candidate. -/
theorem cand_has (e : FVec Ideal S1568x3136 .f32) (r : Fin 1568) {a b c : EReal}
    (h : Apart (fun k : Fin 3136 => e (ix2 r k)) a b c) (x : EReal) (hx : x = a ∨ x = b ∨ x = c) :
    ∃ k : Fin 448, cands e (ix2 r k) = x := by
  have hl : ∃ l : Fin 3136, e (ix2 r l) = x := by
    obtain ⟨i, j, k, hi, hj, hk, -⟩ := h.ex
    rcases hx with rfl | rfl | rfl
    exacts [⟨i, hi⟩, ⟨j, hj⟩, ⟨k, hk⟩]
  obtain ⟨l, hl⟩ := hl
  by_cases hlt : l.val < 3072
  · have hn := net_keeps h (lane e r ⟨l.val % 128, Nat.mod_lt _ (by omega)⟩) 24
      (fun i => if hi : 128 * i + l.val % 128 < 3136 then ⟨128 * i + l.val % 128, hi⟩ else 0)
      (fun i j hi hj hij => by
        rw [dif_pos (by omega), dif_pos (by omega)] at hij
        have := congrArg Fin.val hij
        simp only at this
        omega)
      (fun i hi => by
        unfold lane
        rw [dif_pos (by omega)]
        simp only
        rw [dif_pos (by omega)])
      (l.val / 128) (by omega) x hx
      (by
        unfold lane
        rw [dif_pos (by simp only; omega)]
        rw [← hl]
        congr 2
        apply Fin.ext
        simp only
        omega)
    rcases hn with hn | hn | hn
    · refine ⟨⟨l.val % 128, by omega⟩, ?_⟩
      rw [cands_apply, dif_pos (by simp only; omega), kept_first, hn]
    · refine ⟨⟨128 + l.val % 128, by omega⟩, ?_⟩
      rw [cands_apply, dif_neg (by simp only; omega), dif_pos (by simp only; omega), kept_second, hn]
      exact congrArg (fun l => (net (lane e r l) 24).2.1) (Fin.ext (by simp only; omega))
    · refine ⟨⟨256 + l.val % 128, by omega⟩, ?_⟩
      rw [cands_apply, dif_neg (by simp only; omega), dif_neg (by simp only; omega), dif_pos (by simp only; omega), kept_third, hn]
      exact congrArg (fun l => (net (lane e r l) 24).2.2) (Fin.ext (by simp only; omega))
  · refine ⟨⟨384 + (l.val - 3072), by omega⟩, ?_⟩
    rw [cands_apply, dif_neg (by simp only; omega), dif_neg (by simp only; omega), dif_neg (by simp only; omega), ← hl]
    congr 2
    apply Fin.ext; simp only; omega

/-- Some candidate is below each of the row's values. -/
theorem cand_below (e : FVec Ideal S1568x3136 .f32) (r : Fin 1568) (l : Fin 3136) :
    ∃ k : Fin 448, cands e (ix2 r k) ≤ e (ix2 r l) := by
  by_cases hlt : l.val < 3072
  · refine ⟨⟨l.val % 128, by omega⟩, ?_⟩
    rw [cands_apply, dif_pos (by simp only; omega), kept_first]
    refine (net_below _ 24 (l.val / 128) (by omega)).trans (le_of_eq ?_)
    unfold lane
    rw [dif_pos (by simp only; omega)]
    congr 2
    apply Fin.ext
    simp only
    omega
  · refine ⟨⟨384 + (l.val - 3072), by omega⟩, le_of_eq ?_⟩
    rw [cands_apply, dif_neg (by simp only; omega), dif_neg (by simp only; omega), dif_neg (by simp only; omega)]
    congr 2
    apply Fin.ext; simp only; omega

/-- The output block at any pixel: a score whose first value is below every centroid's. -/
theorem out2_first (x : Vec Ideal S1x1568x112 .f32) (w : Vec Ideal S112x3136 .f32) (r : Fin 1568) :
    ∃ a u v : EReal, (∀ k, a ≤ val (fun o => x (ix3 0 r o)) w k)
      ∧ out1_2 x w (ix3 0 r 0) = soft (root (∑ o : Fin 112, x (ix3 0 r o) * x (ix3 0 r o)) a) u v := by
  have h := pay1_apply (k1_pay3 x) (cands (k1_pay4 x w)) r
  rw [← out2_eq, pay3_apply] at h
  refine ⟨_, _, _, fun k => ?_, h⟩
  obtain ⟨k', hk'⟩ := cand_below (k1_pay4 x w) r k
  rw [← pay4_apply]
  exact (least_le (fun k : Fin 448 => cands (k1_pay4 x w) (ix2 r k)) k').trans hk'

/-- The output block at a pixel whose three least values are apart: the score of these three. -/
theorem out2_apply (x : Vec Ideal S1x1568x112 .f32) (w : Vec Ideal S112x3136 .f32) (r : Fin 1568) {a b c : EReal}
    (h : Apart (val (fun o => x (ix3 0 r o)) w) a b c) :
    out1_2 x w (ix3 0 r 0)
      = soft (root (∑ o : Fin 112, x (ix3 0 r o) * x (ix3 0 r o)) a) (root (∑ o : Fin 112, x (ix3 0 r o) * x (ix3 0 r o)) b)
          (root (∑ o : Fin 112, x (ix3 0 r o) * x (ix3 0 r o)) c) := by
  have h' : Apart (fun k : Fin 3136 => k1_pay4 x w (ix2 r k)) a b c := by
    have : (fun k : Fin 3136 => k1_pay4 x w (ix2 r k)) = val (fun o => x (ix3 0 r o)) w := funext (pay4_apply x w r)
    rw [this]; exact h
  obtain ⟨e1, e2, e3⟩ := three_rounds h' (fun k : Fin 448 => cands (k1_pay4 x w) (ix2 r k)) (cand_mem _ r)
    (cand_has _ r h' a (Or.inl rfl)) (cand_has _ r h' b (Or.inr (Or.inl rfl))) (cand_has _ r h' c (Or.inr (Or.inr rfl)))
  rw [out2_eq, pay1_apply, pay3_apply, e1, e2, e3]

end Cert.KernelIdeal.Score

end
-- ==== Proof.RefDist.lean ====
/- The reference's distances at a pixel, its three nearest, and its score, on finite arguments. -/
module

public import Idealize.ShloMosaic.Lib.SortFacts
public import proofs.«01_k».proof.Proof.PhiEq
public import proofs.«01_k».proof.Proof.KernelScore

@[expose] public section

set_option maxRecDepth 16384

noncomputable section

namespace Cert.ReferenceIdeal.Score

open Idealize.ShloMosaic Cert.ReferenceIdeal.Read Cert.KernelIdeal.Score Cert.Near

variable (p : Vec Ideal S1x8x1792x56x56 .f32) (w : Vec Ideal S112x1792 .f32) (b : Vec Ideal S112 .f32)
  (C : Vec Ideal S112x3136 .f32)

theorem two_word : Ideal.ofBits FTy.f32 0x40000000#32 = ((2 : ℝ) : EReal) := by
  simp [Ideal.ofBits, Ideal.ieee, -EReal.coe_mul]; norm_num

theorem minus_two_word : Ideal.ofBits FTy.f32 0xC0000000#32 = ((-2 : ℝ) : EReal) := by
  simp [Ideal.ofBits, Ideal.ieee, -EReal.coe_mul]; norm_num

theorem bot_word : Ideal.ofBits FTy.f32 0xFF800000#32 = (⊥ : EReal) := by
  simp [Ideal.ofBits, Ideal.ieee, -EReal.coe_mul]

/-- The distance belonging to the real value `v`, `n` the square norm. -/
def away (n v : ℝ) : ℝ := Real.sqrt (max (v + n) 0)

theorem away_nonneg (n v : ℝ) : 0 ≤ away n v := Real.sqrt_nonneg _

theorem away_mono (n : ℝ) {u v : ℝ} (h : u ≤ v) : away n u ≤ away n v :=
  Real.sqrt_le_sqrt (max_le_max (by linarith) le_rfl)

/-- A value below that of a positive distance has a smaller distance. -/
theorem away_lt (n : ℝ) {u v : ℝ} (h : u < v) (hv : 0 < away n v) : away n u < away n v := by
  have hp : 0 < max (v + n) 0 := Real.sqrt_pos.mp hv
  have : 0 < v + n := by
    rcases lt_max_iff.mp hp with h | h
    · exact h
    · exact absurd h (lt_irrefl _)
  exact Real.sqrt_lt_sqrt (le_max_right _ _) (by rw [max_eq_left this.le]; exact max_lt (by linarith) this)

theorem root_coe (n v : ℝ) : root (n : EReal) (v : EReal) = (away n v : EReal) := by
  unfold root away
  rw [show (0 : EReal) = ((0 : ℝ) : EReal) from rfl, ← EReal.coe_add, ← EReal.coe_strictMono.monotone.map_max, Ideal.sqrt_coe,
    if_neg (not_lt.mpr (le_max_right _ _))]

/-- The kernel's value of a centroid, on a finite feature and finite centroids. -/
theorem val_coe (f : Fin 112 → ℝ) (W : S112x3136.Idx → ℝ) (k : Fin 3136) :
    val (fun o => (f o : EReal)) (fun i => (W i : EReal)) k
      = ((∑ o, W (ix2 o k) * W (ix2 o k) - 2 * ∑ o, f o * W (ix2 o k) : ℝ) : EReal) := by
  unfold val
  simp only [minus_two_word, ← EReal.coe_mul]
  rw [coe_sum, coe_sum, ← EReal.coe_add]
  congr 1
  rw [Finset.mul_sum, sub_eq_add_neg, add_comm, ← Finset.sum_neg_distrib]
  congr 1
  exact Finset.sum_congr rfl fun o _ => by ring

/-- The reference's distance at a pixel, from the descriptor there. -/
theorem v28_read (n : Fin 8) (q k : Fin 3136) :
    val_main_v28 p w b C (ix3 n q k)
      = Ideal.sqrt (max ((∑ o, val_main_v11 p w b (ix3 n q o) * val_main_v11 p w b (ix3 n q o) + ∑ o, C (ix2 o k) * C (ix2 o k) : EReal)
          - ((2 : ℝ) : EReal) * ∑ o, val_main_v11 p w b (ix3 n q o) * C (ix2 o k)) 0) := by
  have h1 : ∀ i, val_main_cst_1 (F := Ideal) i = (0 : EReal) := fun _ => zero_word
  have h2 : ∀ i, val_main_cst_2 (F := Ideal) i = (0 : EReal) := fun _ => zero_word
  have h3 : ∀ i, val_main_cst_3 (F := Ideal) i = ((2 : ℝ) : EReal) := fun _ => two_word
  have h4 : ∀ i, val_main_cst_4 (F := Ideal) i = (0 : EReal) := fun _ => zero_word
  pointwise [val_main_v28, val_main_v27, val_main_v26, val_main_v25, val_main_v24, val_main_v23, val_main_v22, val_main_v21,
    val_main_v20, val_main_v19, val_main_v18, val_main_v17, val_main_v16, val_main_v15, val_main_v14, val_main_v13, val_main_v12]
  simp only [h1, h2, h3, h4, zero_add]

/-- The reference's distance at a pixel whose feature is finite: the one of the kernel's value. -/
theorem v28_at (n : Fin 8) (q k : Fin 3136) (f : Fin 112 → ℝ) (W : S112x3136.Idx → ℝ)
    (hf : ∀ o, val_main_v11 p w b (ix3 n q o) = (f o : EReal)) (hW : ∀ i, C i = (W i : EReal)) :
    val_main_v28 p w b C (ix3 n q k)
      = (away (∑ o, f o * f o) (∑ o, W (ix2 o k) * W (ix2 o k) - 2 * ∑ o, f o * W (ix2 o k)) : EReal) := by
  rw [v28_read]
  simp only [hf, hW, ← EReal.coe_mul, coe_sum]
  rw [← root_coe]
  unfold root
  simp only [← EReal.coe_mul, ← EReal.coe_add, ← EReal.coe_sub]
  congr 3
  ring

/-- The three greatest along the last axis: the first three places of an arrangement of the row in falling order. -/
theorem top_at (v : S8x3136x3136.Idx → EReal) (n : Fin 8) (q : Fin 3136) :
    ∃ σ : Fin 3136 → Fin 3136, Function.Surjective σ ∧ (∀ i j, i < j → v (ix3 n q (σ j)) ≤ v (ix3 n q (σ i)))
      ∧ ∀ j : Fin 3, (Host.topK (α := EReal) S8x3136x3 2 (FloatOps.cmpfTotal (F := Ideal) (φ := .f32) .gt) v Gen.sliceFits_S8x3136x3136_S8x3136x3).1 (ix3 n q j)
          = v (ix3 n q (σ ⟨j.val, by omega⟩)) := by
  let R : Fin 3136 → Fin 3136 → Bool := fun k k' => decide (v (ix3 n q k') < v (ix3 n q k))
  refine ⟨sortedFrom R, sortedFrom_surjective R, ?_, ?_⟩
  · intro i j hij
    have := sortedFrom_noInversion R R (fun a b h => by simp only [R, decide_eq_true_eq, decide_eq_false_iff_not, not_lt] at h ⊢; exact h.le)
      (fun a b h => h) (fun a b c h h' => by simp only [R, decide_eq_false_iff_not, not_lt] at h h' ⊢; exact h.trans h') i j hij
    simpa only [R, decide_eq_false_iff_not, not_lt] using this
  · intro j
    have hj : ∀ k : Fin 3136, (Shape.Idx.along (s := S8x3136x3136) (ix3 n q ⟨j.val, by omega⟩) 2 k) = ix3 n q k := by
      intro k
      funext a
      fin_cases a <;> rfl
    have hR : R = fun k k' => FloatOps.cmpfTotal (F := Ideal) (φ := .f32) .gt (v (Shape.Idx.along (s := S8x3136x3136) (ix3 n q ⟨j.val, by omega⟩) 2 k))
        (v (Shape.Idx.along (s := S8x3136x3136) (ix3 n q ⟨j.val, by omega⟩) 2 k')) == 1#1 := by
      funext k k'
      rw [hj, hj, Ideal.cmpfTotal_def]
      show decide _ = (BitVec.ofBool (decide _) == 1#1)
      by_cases hlt : v (ix3 n q k') < v (ix3 n q k)
      · rw [decide_eq_true hlt]; rfl
      · rw [decide_eq_false hlt]; rfl
    have hz : (fun a : Fin 3 => (⟨0 + ((ix3 n q j : S8x3136x3.Idx) a).val, by
        fin_cases a
        · show 0 + n.val < 8; omega
        · show 0 + q.val < 3136; omega
        · show 0 + j.val < 3136; omega⟩ : Fin (S8x3136x3136.size a))) = (ix3 n q ⟨j.val, by omega⟩ : S8x3136x3136.Idx) := by
      funext a
      apply Fin.ext
      fin_cases a <;> exact Nat.zero_add _
    have hread : ∀ z : S8x3136x3136.Idx → EReal, extractStridedSlice S8x3136x3 (fun _ => 0) z
        Gen.sliceFits_S8x3136x3136_S8x3136x3 (ix3 n q j) = z (ix3 n q ⟨j.val, by omega⟩) := fun z => congrArg z hz
    unfold Host.topK
    dsimp only
    refine (hread _).trans ?_
    unfold Host.sort2
    rw [dif_pos (by decide)]
    refine Eq.trans ?_ (congrArg v (hj (sortedFrom R ⟨j.val, by omega⟩)))
    rw [hR]
    rfl

/-- The score from the three nearest distances, by the exponentials divided by their sum. -/
theorem score_real (v : Fin 3 → EReal) (d : Fin 3 → ℝ) (hv : ∀ j, v j = ((-d j : ℝ) : EReal)) (h1 : d 0 ≤ d 1) (h2 : d 0 ≤ d 2) :
    Ideal.div (Ideal.exp (- -v 0 - max ⊥ (Finset.fold max ⊥ (fun j => - -v j) Finset.univ)))
        (0 + ∑ j, Ideal.exp (- -v j - max ⊥ (Finset.fold max ⊥ (fun j => - -v j) Finset.univ))) * -v 0
      = soft (d 0) (d 1) (d 2) := by
  have hm : max ⊥ (Finset.fold max ⊥ (fun j => - -v j) Finset.univ) = ((-d 0 : ℝ) : EReal) := by
    rw [show (Finset.univ : Finset (Fin 3)) = {0, 1, 2} from rfl]
    simp only [Finset.fold_insert (show (0 : Fin 3) ∉ ({1, 2} : Finset (Fin 3)) by decide),
      Finset.fold_insert (show (1 : Fin 3) ∉ ({2} : Finset (Fin 3)) by decide), Finset.fold_singleton, neg_neg, hv]
    have a1 : ((-d 1 : ℝ) : EReal) ≤ ((-d 0 : ℝ) : EReal) := EReal.coe_le_coe_iff.mpr (by linarith)
    have a2 : ((-d 2 : ℝ) : EReal) ≤ ((-d 0 : ℝ) : EReal) := EReal.coe_le_coe_iff.mpr (by linarith)
    rw [max_eq_left (bot_le : ⊥ ≤ ((-d 2 : ℝ) : EReal)), max_eq_left (max_le a1 a2), max_eq_right bot_le]
  rw [hm]
  simp only [neg_neg, hv, ← EReal.coe_sub, Ideal.exp_coe]
  rw [coe_sum, Fin.sum_univ_three, zero_add, ← EReal.coe_neg]
  unfold soft
  simp only [← EReal.coe_sub, Ideal.exp_coe]
  rw [show (1 : EReal) = ((1 : ℝ) : EReal) from rfl, ← EReal.coe_add, ← EReal.coe_add]
  have e1 := Real.exp_pos (d 0 - d 1)
  have e2 := Real.exp_pos (d 0 - d 2)
  have r0 : -d 0 - -d 0 = 0 := by ring
  have r1 : -d 1 - -d 0 = d 0 - d 1 := by ring
  have r2 : -d 2 - -d 0 = d 0 - d 2 := by ring
  rw [r0, r1, r2, Real.exp_zero, Ideal.div_coe (by positivity), Ideal.div_coe (by positivity), ← EReal.coe_mul, ← EReal.coe_mul,
    ← EReal.coe_mul]
  congr 1
  ring

/-- The reference's score at a pixel, from what it selects there. -/
theorem v49_read (n : Fin 8) (y x : Fin 56) (q : Fin 3136) (hq : q.val = 56 * y.val + x.val) (v : Fin 3 → EReal)
    (hv : ∀ j, val_main_values p w b C (ix3 n q j) = v j) :
    val_main_v49 p w b C (ix4 n 0 y x)
      = Ideal.div (Ideal.exp (- -v 0 - max ⊥ (Finset.fold max ⊥ (fun j => - -v j) Finset.univ)))
          (0 + ∑ j, Ideal.exp (- -v j - max ⊥ (Finset.fold max ⊥ (fun j => - -v j) Finset.univ))) * -v 0 := by
  obtain rfl : (fun j => val_main_values p w b C (ix3 n q j)) = v := funext hv
  have h5 : ∀ i, val_main_cst_5 (F := Ideal) i = (⊥ : EReal) := fun _ => bot_word
  have h6 : ∀ i, val_main_cst_6 (F := Ideal) i = (⊥ : EReal) := fun _ => bot_word
  have h7 : ∀ i, val_main_cst_7 (F := Ideal) i = (0 : EReal) := fun _ => zero_word
  pointwise [val_main_v49, val_main_v48, val_main_v47, val_main_v46, val_main_v45, val_main_v44, val_main_v43, val_main_v42,
    val_main_v41, val_main_v40, val_main_v39, val_main_v38, val_main_v37, val_main_v36, val_main_v35, val_main_v34, val_main_v33,
    val_main_v32, val_main_v31, val_main_v30]
  have e : (⟨y.val * 56 + x.val, by omega⟩ : Fin 3136) = q := Fin.ext (by simp only; omega)
  simp only [h5, h6, h7, e, zero_add]

/-- The reference's score at a pixel, from the three real distances it selects there. -/
theorem v49_at (n : Fin 8) (y x : Fin 56) (q : Fin 3136) (hq : q.val = 56 * y.val + x.val) (d : Fin 3 → ℝ)
    (hd : ∀ j, val_main_values p w b C (ix3 n q j) = ((-d j : ℝ) : EReal)) (h1 : d 0 ≤ d 1) (h2 : d 0 ≤ d 2) :
    val_main_v49 p w b C (ix4 n 0 y x) = soft (d 0) (d 1) (d 2) :=
  (v49_read p w b C n y x q hq (fun j => ((-d j : ℝ) : EReal)) hd).trans (score_real _ d (fun _ => rfl) h1 h2)

end Cert.ReferenceIdeal.Score

end
-- ==== Proof.KernelResult.lean ====
/- The score result of the kernel program at one pixel, from the argument arrays. -/
module

public import proofs.«01_k».proof.Proof.KernelHost
public import proofs.«01_k».proof.Proof.KernelScore

@[expose] public section

set_option maxRecDepth 16384

noncomputable section

namespace Cert.KernelIdeal.Score

open Idealize.ShloMosaic Idealize.ShloMosaic.TcCoe Cert.KernelIdeal.Gen Cert.KernelIdeal.Phi Cert.Near
open Idealize.ShloMosaic.Pipeline (Dat)

theorem points1 : cfg1.N = 16 := by decide +kernel

/-- The blocks of the distance kernel's windows at grid point `t`: half `t % 2` of picture `t / 2`. -/
theorem maps1 : ∀ t : Fin cfg1.N,
    (win1_0.index t (0 : Fin 3) = t.val / 2 ∧ win1_0.index t (1 : Fin 3) = t.val % 2 ∧ win1_0.index t (2 : Fin 3) = 0)
    ∧ (win1_1.index t (0 : Fin 2) = 0 ∧ win1_1.index t (1 : Fin 2) = 0)
    ∧ (win1_2.index t (0 : Fin 3) = t.val ∧ win1_2.index t (1 : Fin 3) = 0 ∧ win1_2.index t (2 : Fin 3) = 0) :=
  (by decide +kernel : ∀ t : Fin grid1.N, _)

/-- The pixel of row `r` in half `h`. -/
def pix (h : Fin 2) (r : Fin 1568) : Fin 3136 := ⟨1568 * h.val + r.val, by omega⟩

section
variable (V : (c : Dev nD) → (b : Ref sig .tc) → Buf (Elt Ideal) ((c.tc : Thread nD τ).loc b)) (c : Dev nD)

/-- The feature block at an element. -/
theorem f_block (t : Fin cfg1.N) (n : Fin 8) (h : Fin 2) (ht : t.val = 2 * n.val + h.val) (r : Fin 1568) (o : Fin 112) :
    iblk1 V c 0 t (ix3 0 r o : S1x1568x112.Idx) = V c main_v4_0 (ix3 n (pix h r) o : S8x3136x112.Idx) := by
  obtain ⟨⟨e0, e1, e2⟩, -⟩ := maps1 t
  show V c main_v4_0 (((cfg1.win 0).blk t).view.emb (ix3 0 r o : S1x1568x112.Idx)) = _
  congr 1
  funext a; apply Fin.ext
  match a with
  | ⟨0, _⟩ => show win1_0.index t (0 : Fin 3) * 1 + 1 * 0 = n.val; omega
  | ⟨1, _⟩ => show win1_0.index t (1 : Fin 3) * 1568 + 1 * r.val = 1568 * h.val + r.val; omega
  | ⟨2, _⟩ => show win1_0.index t (2 : Fin 3) * 112 + 1 * o.val = o.val; omega

/-- The codebook block is the whole codebook. -/
theorem c_block (t : Fin cfg1.N) : iblk1 V c 1 t = V c main_arg3 := by
  obtain ⟨-, ⟨e0, e1⟩, -⟩ := maps1 t
  funext j
  show V c main_arg3 (((cfg1.win 1).blk t).view.emb (j : S112x3136.Idx)) = V c main_arg3 (j : S112x3136.Idx)
  congr 1
  funext a; apply Fin.ext
  match a with
  | ⟨0, _⟩ => show win1_1.index t (0 : Fin 2) * 112 + 1 * (j 0).val = (j 0).val; omega
  | ⟨1, _⟩ => show win1_1.index t (1 : Fin 2) * 3136 + 1 * (j 1).val = (j 1).val; omega

/-- The `t`-th grid point. -/
def point (t : Fin 16) : Fin cfg1.N := t.cast points1.symm

/-- Grid point `t`'s output block, in the array. -/
def scoreOf (t : Fin 16) (r : Fin 1568) : EReal :=
  out1_2 (iblk1 V c 0 (point t)) (iblk1 V c 1 (point t)) (ix3 0 r 0 : S1x1568x1.Idx)

/-- The score array after the grid. -/
theorem arr2 : (dat1 V c).arrAt 2 cfg1.N = fun i : S16x1568x1.Idx => scoreOf V c (i 0) (i 1) := by
  refine Dat.arrAt_eq_of_covers (dat1 V c) 2 _ (by decide +kernel) fun t _ y => ?_
  obtain ⟨e0, e1, e2⟩ := (maps1 t).2.2
  rw [after1_2]
  have ht : t.val < 16 := points1 ▸ t.isLt
  idx_vars y
  obtain rfl : y0 = 0 := Subsingleton.elim _ _
  obtain rfl : y2 = 0 := Subsingleton.elim _ _
  have hemb : ((cfg1.win 2).blk t).view.emb (ix3 0 y1 0 : S1x1568x1.Idx) = (ix3 ⟨t.val, ht⟩ y1 0 : S16x1568x1.Idx) := by
    funext a; apply Fin.ext
    match a with
    | ⟨0, _⟩ => show win1_2.index t (0 : Fin 3) * 1 + 1 * 0 = t.val; omega
    | ⟨1, _⟩ => show win1_2.index t (1 : Fin 3) * 1568 + 1 * y1.val = y1.val; omega
    | ⟨2, _⟩ => show win1_2.index t (2 : Fin 3) * 1 + 1 * 0 = 0; omega
  refine (cast_eq _ _).trans ?_
  have hx : (cfg1.win 2).xinj (grid1.coords t) (ix3 0 y1 0 : S1x1568x1.Idx) = (ix3 0 y1 0 : S1x1568x1.Idx) := by
    funext a; apply Fin.ext; rfl
  refine (congrArg (out1_2 (iblk1 V c 0 t) (iblk1 V c 1 t)) hx).trans ?_
  exact (congrArg (fun i : S16x1568x1.Idx => scoreOf V c (i 0) (i 1)) hemb).symm

end

variable (m : (ℓ : Loc nD τ sig) → Buf (Elt Ideal) ℓ) (ρ : Dev nD → PrngReg) (c : Dev nD)

/-- The reshape of the score array to pictures: the pixel of row `y`, column `x` is in half `y / 28`. -/
theorem reshape_apply (s : Vec Ideal S16x1568x1 .f32) (n : Fin 8) (y x : Fin 56) :
    shapeCast S8x1x56x56 s shapeCasts_S16x1568x1_S8x1x56x56 (ix4 n 0 y x)
      = s (ix3 ⟨2 * n.val + y.val / 28, by omega⟩ ⟨56 * (y.val % 28) + x.val, by omega⟩ 0) := by
  pointwise
  congr 2
  · exact Fin.ext (by simp only; omega)
  · exact Fin.ext (by simp only; omega)

/-- The pixel of row `y`, column `x`. -/
def at_ (y x : Fin 56) : Fin 3136 := ⟨56 * y.val + x.val, by omega⟩

/-- The score result at a pixel is an element of the output block whose row has the pixel's feature. -/
theorem score_read (n : Fin 8) (y x : Fin 56) :
    ∃ (X : Vec Ideal S1x1568x112 .f32) (r : Fin 1568),
      (fun o : Fin 112 => X (ix3 0 r o)) = phi (m ((c.tc : Thread nD τ).loc main_arg0)) (m ((c.tc : Thread nD τ).loc main_arg1))
          (m ((c.tc : Thread nD τ).loc main_arg2)) n (at_ y x)
      ∧ (W4 m ρ c (Proc.devRef .tc main_v6) : Vec Ideal S8x1x56x56 .f32) (ix4 n 0 y x)
        = out1_2 X (m ((c.tc : Thread nD τ).loc main_arg3)) (ix3 0 r 0) := by
  have hc : iblk1 (V2 m ρ) c 1 (point ⟨2 * n.val + y.val / 28, by omega⟩) = m ((c.tc : Thread nD τ).loc main_arg3) :=
    (c_block (V2 m ρ) c _).trans (V2_code m ρ c)
  refine ⟨iblk1 (V2 m ρ) c 0 (point ⟨2 * n.val + y.val / 28, by omega⟩), ⟨56 * (y.val % 28) + x.val, by omega⟩, ?_, ?_⟩
  · funext o
    refine (f_block (V2 m ρ) c _ n ⟨y.val / 28, by omega⟩ rfl _ _).trans ?_
    refine (congrFun (V2_feat m ρ c) _).trans ?_
    show phi _ _ _ n (pix _ _) o = _
    congr 1
    exact Fin.ext (show 1568 * (y.val / 28) + (56 * (y.val % 28) + x.val) = 56 * y.val + x.val by omega)
  · rw [W4_score, reshape_apply, (W3_arr m ρ c 2).trans (arr2 (V2 m ρ) c), ← hc]
    rfl

/-- The score result at a pixel whose three least values are apart: the score of these three. -/
theorem score_result (n : Fin 8) (y x : Fin 56) {a b d : EReal}
    (h : Apart (val (phi (m ((c.tc : Thread nD τ).loc main_arg0)) (m ((c.tc : Thread nD τ).loc main_arg1))
      (m ((c.tc : Thread nD τ).loc main_arg2)) n (at_ y x)) (m ((c.tc : Thread nD τ).loc main_arg3))) a b d)
    (N : EReal) (hN : N = ∑ o : Fin 112, phi (m ((c.tc : Thread nD τ).loc main_arg0)) (m ((c.tc : Thread nD τ).loc main_arg1))
      (m ((c.tc : Thread nD τ).loc main_arg2)) n (at_ y x) o * phi (m ((c.tc : Thread nD τ).loc main_arg0))
        (m ((c.tc : Thread nD τ).loc main_arg1)) (m ((c.tc : Thread nD τ).loc main_arg2)) n (at_ y x) o) :
    (W4 m ρ c (Proc.devRef .tc main_v6) : Vec Ideal S8x1x56x56 .f32) (ix4 n 0 y x)
      = soft (root N a) (root N b) (root N d) := by
  obtain ⟨X, r, hf, hX⟩ := score_read m ρ c n y x
  rw [← hf] at h hN
  rw [hX, out2_apply _ _ _ h, hN]

/-- The score result at any pixel: a score whose first value is below every centroid's. -/
theorem score_first (n : Fin 8) (y x : Fin 56) :
    ∃ a u v : EReal, (∀ k, a ≤ val (phi (m ((c.tc : Thread nD τ).loc main_arg0)) (m ((c.tc : Thread nD τ).loc main_arg1))
        (m ((c.tc : Thread nD τ).loc main_arg2)) n (at_ y x)) (m ((c.tc : Thread nD τ).loc main_arg3)) k)
      ∧ (W4 m ρ c (Proc.devRef .tc main_v6) : Vec Ideal S8x1x56x56 .f32) (ix4 n 0 y x)
        = soft (root (∑ o : Fin 112, phi (m ((c.tc : Thread nD τ).loc main_arg0)) (m ((c.tc : Thread nD τ).loc main_arg1))
            (m ((c.tc : Thread nD τ).loc main_arg2)) n (at_ y x) o * phi (m ((c.tc : Thread nD τ).loc main_arg0))
              (m ((c.tc : Thread nD τ).loc main_arg1)) (m ((c.tc : Thread nD τ).loc main_arg2)) n (at_ y x) o) a) u v := by
  obtain ⟨X, r, hf, hX⟩ := score_read m ρ c n y x
  obtain ⟨a, u, v, ha, hs⟩ := out2_first X (m ((c.tc : Thread nD τ).loc main_arg3)) r
  rw [hX, hs]
  rw [hf] at ha
  have hfo : ∀ o : Fin 112, X (ix3 0 r o) = phi (m ((c.tc : Thread nD τ).loc main_arg0)) (m ((c.tc : Thread nD τ).loc main_arg1))
      (m ((c.tc : Thread nD τ).loc main_arg2)) n (at_ y x) o := congrFun hf
  exact ⟨a, u, v, ha, by simp only [hfo]⟩

end Cert.KernelIdeal.Score

end
-- ==== Proof.ScoreEq.lean ====
/- The score at one pixel: where the three least distances are three different numbers, the kernel's is the reference's. -/
module

public import proofs.«01_k».proof.Proof.RefDist
public import proofs.«01_k».proof.Proof.KernelResult

@[expose] public section

set_option maxRecDepth 16384

noncomputable section

namespace Cert.ReferenceIdeal.Score

open Idealize.ShloMosaic Cert.ReferenceIdeal.Read Cert.KernelIdeal.Score Cert.KernelIdeal.Phi Cert.Near

/-- Every entry of an array is a real number. -/
def AllReal {ι : Type} (x : ι → EReal) : Prop := ∀ i, ∃ r : ℝ, x i = (r : EReal)

/-- What the reference selects at a pixel whose descriptor is finite, among finite centroids: the distances belonging to the real values `V`, the three
    kept being those of the first three centroids of an order `σ` of rising distance. -/
theorem chosen (p : Vec Ideal S1x8x1792x56x56 .f32) (w : Vec Ideal S112x1792 .f32) (b : Vec Ideal S112 .f32)
    (C : Vec Ideal S112x3136 .f32) (hp : AllReal p) (hw : AllReal w) (hC : AllReal C) (n : Fin 8) (q : Fin 3136)
    (hr : ∀ o, ∃ r : ℝ, phi p w b n q o = (r : EReal)) :
    ∃ (N : ℝ) (V : Fin 3136 → ℝ) (σ : Fin 3136 → Fin 3136),
      (∑ o, phi p w b n q o * phi p w b n q o = (N : EReal)) ∧ (∀ k, val (phi p w b n q) C k = (V k : EReal))
      ∧ Function.Surjective σ ∧ (∀ i j, i < j → away N (V (σ i)) ≤ away N (V (σ j)))
      ∧ ∀ j : Fin 3, val_main_values p w b C (ix3 n q j) = ((-away N (V (σ ⟨j.val, by omega⟩)) : ℝ) : EReal) := by
  choose W hW using hC
  have hf := fun o => phi_eq p w b hp hw n q o
  choose f hf' using hr
  have hv : ∀ o, val_main_v11 p w b (ix3 n q o) = (f o : EReal) := fun o => (hf o).1.symm.trans (hf' o)
  have hphi : phi p w b n q = fun o => (f o : EReal) := funext hf'
  have hCW : C = fun i => (W i : EReal) := funext hW
  obtain ⟨σ, hs, hm, hj⟩ := top_at (val_main_v29 p w b C) n q
  have h29 : ∀ k, val_main_v29 p w b C (ix3 n q k) = ((-away (∑ o, f o * f o) (∑ o, W (ix2 o k) * W (ix2 o k) - 2 * ∑ o, f o * W (ix2 o k)) : ℝ) : EReal) := by
    intro k
    rw [EReal.coe_neg, ← v28_at p w b C n q k f W hv hW]
    rfl
  refine ⟨∑ o, f o * f o, fun k => ∑ o, W (ix2 o k) * W (ix2 o k) - 2 * ∑ o, f o * W (ix2 o k), σ, ?_, ?_, hs, ?_, ?_⟩
  · simp only [hf', ← EReal.coe_mul]
    exact coe_sum _
  · intro k
    rw [hphi, hCW]
    exact val_coe f W k
  · intro i j hij
    have := hm i j hij
    rw [h29, h29, EReal.coe_le_coe_iff] at this
    linarith
  · intro j
    exact (hj j).trans (h29 _)

/-- One more summand of a sum multiplied by −2 summand by summand. -/
theorem minus_step (x S T : EReal) (h : T ≤ -(((2 : ℝ) : EReal) * S)) :
    x * ((-2 : ℝ) : EReal) + T ≤ -(((2 : ℝ) : EReal) * (x + S)) := by
  induction x with
  | bot => rw [EReal.bot_add, EReal.coe_mul_bot_of_pos (by norm_num : (0 : ℝ) < 2), EReal.neg_bot]; exact le_top
  | top => rw [EReal.top_mul_coe_of_neg (by norm_num : (-2 : ℝ) < 0), EReal.bot_add]; exact bot_le
  | coe r =>
    induction S with
    | bot => rw [EReal.add_bot, EReal.coe_mul_bot_of_pos (by norm_num : (0 : ℝ) < 2), EReal.neg_bot]; exact le_top
    | top =>
      rw [EReal.coe_mul_top_of_pos (by norm_num : (0 : ℝ) < 2), EReal.neg_top] at h
      rw [le_bot_iff.mp h, EReal.add_bot]
      exact bot_le
    | coe s =>
      refine (add_le_add_right h _).trans (le_of_eq ?_)
      rw [← EReal.coe_mul, ← EReal.coe_mul, ← EReal.coe_neg, ← EReal.coe_add, ← EReal.coe_add, ← EReal.coe_mul, ← EReal.coe_neg]
      congr 1
      ring

/-- A sum multiplied by −2 summand by summand is at most minus twice the sum; with both infinities among the summands it is
    less. -/
theorem minus_sum {ι : Type} [Fintype ι] (x : ι → EReal) : ∑ o, x o * ((-2 : ℝ) : EReal) ≤ -(((2 : ℝ) : EReal) * ∑ o, x o) := by
  classical
  induction (Finset.univ : Finset ι) using Finset.induction_on with
  | empty => simp
  | insert a s h ih => rw [Finset.sum_insert h, Finset.sum_insert h]; exact minus_step _ _ _ ih

/-- The kernel's value of a centroid and the square norm add up to at most what the reference takes the root of. -/
theorem val_le (f : Fin 112 → EReal) (C : Vec Ideal S112x3136 .f32) (k : Fin 3136) (N : EReal) :
    val f C k + N ≤ (N + ∑ o, C (ix2 o k) * C (ix2 o k) : EReal) - ((2 : ℝ) : EReal) * ∑ o, f o * C (ix2 o k) := by
  unfold val
  rw [minus_two_word, add_assoc, add_comm _ N, sub_eq_add_neg, add_comm _ (-_)]
  have : ∑ o, f o * ((-2 : ℝ) : EReal) * C (ix2 o k) = ∑ o, (f o * C (ix2 o k) : EReal) * ((-2 : ℝ) : EReal) :=
    Finset.sum_congr rfl fun o _ => mul_right_comm _ _ _
  rw [this]
  exact add_le_add_left (minus_sum fun o => (f o * C (ix2 o k) : EReal)) _

/-- The clamped root is zero just where nothing positive stands under it. -/
theorem root_zero (X : EReal) : Ideal.sqrt (max X 0) = 0 ↔ X ≤ 0 := by
  induction X with
  | bot =>
    refine ⟨fun _ => bot_le, fun _ => ?_⟩
    rw [max_eq_right bot_le, ← EReal.coe_zero, Ideal.sqrt_coe, if_neg (lt_irrefl _), Real.sqrt_zero]
  | top => simp
  | coe r =>
    rw [← EReal.coe_zero, ← EReal.coe_strictMono.monotone.map_max, Ideal.sqrt_coe, if_neg (not_lt.mpr (le_max_right _ _)),
      EReal.coe_eq_coe_iff, EReal.coe_le_coe_iff, Real.sqrt_eq_zero (le_max_right _ _)]
    exact max_eq_right_iff

theorem exp_nonneg (x : EReal) : 0 ≤ Ideal.exp x := by
  induction x with
  | bot => exact le_rfl
  | top => exact le_top
  | coe r => exact EReal.coe_nonneg.mpr (Real.exp_pos r).le

/-- The score of a pixel at distance zero from its nearest centroid is zero. -/
theorem soft_zero (u v : EReal) : soft 0 u v = 0 := by
  unfold soft Ideal.div
  have : (0 : EReal) < 1 + Ideal.exp (0 - u) + Ideal.exp (0 - v) :=
    lt_of_lt_of_le zero_lt_one (le_add_of_le_of_nonneg (le_add_of_le_of_nonneg le_rfl (exp_nonneg _)) (exp_nonneg _))
  rw [if_neg this.ne', zero_mul]

theorem square_nonneg (x : EReal) : 0 ≤ x * x := by
  rcases le_total 0 x with h | h
  · exact EReal.mul_nonneg h h
  · rw [← neg_mul_neg]
    exact EReal.mul_nonneg (EReal.neg_nonneg.mpr h) (EReal.neg_nonneg.mpr h)

/-- At a pixel whose descriptor has an infinite entry every distance to a finite centroid is zero or infinite. -/
theorem two_distances (p : Vec Ideal S1x8x1792x56x56 .f32) (w : Vec Ideal S112x1792 .f32) (b : Vec Ideal S112 .f32)
    (C : Vec Ideal S112x3136 .f32) (hC : AllReal C) (n : Fin 8) (q k : Fin 3136) (o : Fin 112)
    (ho : val_main_v11 p w b (ix3 n q o) = (⊤ : EReal) ∨ val_main_v11 p w b (ix3 n q o) = (⊥ : EReal)) :
    val_main_v28 p w b C (ix3 n q k) = (0 : EReal) ∨ val_main_v28 p w b C (ix3 n q k) = (⊤ : EReal) := by
  choose W hW using hC
  have hsq : (val_main_v11 p w b (ix3 n q o) * val_main_v11 p w b (ix3 n q o) : EReal) = ⊤ := by
    rcases ho with h | h <;> rw [h]
    · exact EReal.top_mul_top
    · exact EReal.bot_mul_bot
  have hN : (∑ o, val_main_v11 p w b (ix3 n q o) * val_main_v11 p w b (ix3 n q o) : EReal) = ⊤ := by
    rw [← top_le_iff, ← hsq]
    exact Finset.single_le_sum (f := fun o => (val_main_v11 p w b (ix3 n q o) * val_main_v11 p w b (ix3 n q o) : EReal))
      (fun i _ => square_nonneg _) (Finset.mem_univ o)
  rw [v28_read, hN]
  have hc : (∑ o, C (ix2 o k) * C (ix2 o k) : EReal) = ((∑ o, W (ix2 o k) * W (ix2 o k) : ℝ) : EReal) := by
    simp only [hW, ← EReal.coe_mul]
    exact coe_sum _
  rw [hc, EReal.top_add_coe]
  generalize ((2 : ℝ) : EReal) * _ = z
  induction z with
  | bot => right; rfl
  | top => left; exact (root_zero _).mpr bot_le
  | coe r => right; rw [EReal.top_sub_coe, max_eq_left le_top, Ideal.sqrt_top]

/-- At a pixel whose three kept distances are three different numbers the descriptor is finite: an infinite bias leaves only
    two possible distances. -/
theorem finite_of_apart (p : Vec Ideal S1x8x1792x56x56 .f32) (w : Vec Ideal S112x1792 .f32) (b : Vec Ideal S112 .f32)
    (C : Vec Ideal S112x3136 .f32) (hp : AllReal p) (hw : AllReal w) (hC : AllReal C) (n : Fin 8) (q : Fin 3136)
    (h1 : (val_main_values p w b C (ix3 n q 1) : EReal) < val_main_values p w b C (ix3 n q 0))
    (h2 : (val_main_values p w b C (ix3 n q 2) : EReal) < val_main_values p w b C (ix3 n q 1)) (o : Fin 112) :
    ∃ r : ℝ, phi p w b n q o = (r : EReal) := by
  obtain ⟨he, r, hr⟩ := phi_eq p w b hp hw n q o
  by_contra hc
  have ho : val_main_v11 p w b (ix3 n q o) = (⊤ : EReal) ∨ val_main_v11 p w b (ix3 n q o) = (⊥ : EReal) := by
    rw [← he]
    generalize phi p w b n q o = z at hc
    induction z with
    | bot => exact Or.inr rfl
    | top => exact Or.inl rfl
    | coe s => exact absurd ⟨s, rfl⟩ hc
  obtain ⟨σ, -, -, hj⟩ := top_at (val_main_v29 p w b C) n q
  have two : ∀ j : Fin 3, (val_main_values p w b C (ix3 n q j) : EReal) = 0 ∨ (val_main_values p w b C (ix3 n q j) : EReal) = ⊥ := by
    intro j
    have e : (val_main_values p w b C (ix3 n q j) : EReal) = -val_main_v28 p w b C (ix3 n q (σ ⟨j.val, by omega⟩)) := hj j
    rw [e]
    rcases two_distances p w b C hC n q (σ ⟨j.val, by omega⟩) o ho with h | h <;> rw [h]
    · exact Or.inl neg_zero
    · exact Or.inr EReal.neg_top
  rcases two 1 with h | h
  · rcases two 0 with h' | h' <;> rw [h, h'] at h1
    · exact lt_irrefl _ h1
    · exact not_lt_bot h1
  · rw [h] at h2
    exact not_lt_bot h2

/-- Three least distances that are three different numbers belong to three least values that are apart. -/
theorem apart_of {e : Fin 3136 → EReal} {N : ℝ} {V : Fin 3136 → ℝ} {σ : Fin 3136 → Fin 3136} (he : ∀ k, e k = (V k : EReal))
    (hs : Function.Surjective σ) (hm : ∀ i j, i < j → away N (V (σ i)) ≤ away N (V (σ j)))
    (h1 : away N (V (σ 0)) < away N (V (σ 1))) (h2 : away N (V (σ 1)) < away N (V (σ 2))) :
    Apart e (V (σ 0)) (V (σ 1)) (V (σ 2)) := by
  have up : ∀ {u v : ℝ}, away N u < away N v → u < v := by
    intro u v h
    by_contra hc
    exact absurd (away_mono N (not_lt.mp hc)) (not_le.mpr h)
  refine ⟨⟨σ 0, σ 1, σ 2, he _, he _, he _, ?_⟩, EReal.coe_lt_coe_iff.mpr (up h1), EReal.coe_lt_coe_iff.mpr (up h2), EReal.coe_lt_top _⟩
  intro l l0 l1 l2
  rw [he, EReal.coe_le_coe_iff]
  by_contra hc
  have hpos : 0 < away N (V (σ 2)) := lt_of_le_of_lt (away_nonneg N _) h2
  have hlt := away_lt N (not_le.mp hc) hpos
  obtain ⟨i, rfl⟩ := hs l
  have hi : 2 < i := by
    rcases i with ⟨i, hi⟩
    rw [Fin.lt_def]
    show 2 < i
    by_contra h
    have : i = 0 ∨ i = 1 ∨ i = 2 := by omega
    rcases this with rfl | rfl | rfl
    · exact l0 rfl
    · exact l1 rfl
    · exact l2 rfl
  exact absurd (hm 2 i hi) (not_le.mpr hlt)

end Cert.ReferenceIdeal.Score

namespace Cert.KernelIdeal.Score

open Idealize.ShloMosaic Idealize.ShloMosaic.TcCoe Cert.KernelIdeal.Gen Cert.ReferenceIdeal.Score Cert.ReferenceIdeal.Read Cert.KernelIdeal.Phi

/-- The pixel's three kept distances fall under the kernel's score as under the reference's. -/
theorem score_eq (m : (ℓ : Loc nD τ sig) → Buf (Elt Ideal) ℓ) (ρ : Dev nD → PrngReg) (c : Dev nD)
    (p : Vec Ideal S1x8x1792x56x56 .f32) (w : Vec Ideal S112x1792 .f32) (b : Vec Ideal S112 .f32) (C : Vec Ideal S112x3136 .f32)
    (ep : m ((c.tc : Thread nD τ).loc main_arg0) = p) (ew : m ((c.tc : Thread nD τ).loc main_arg1) = w)
    (eb : m ((c.tc : Thread nD τ).loc main_arg2) = b) (eC : m ((c.tc : Thread nD τ).loc main_arg3) = C)
    (hp : AllReal p) (hw : AllReal w) (hC : AllReal C) (n : Fin 8) (y x : Fin 56)
    (h1 : (val_main_values p w b C (ix3 n (at_ y x) 1) : EReal) < val_main_values p w b C (ix3 n (at_ y x) 0))
    (h2 : (val_main_values p w b C (ix3 n (at_ y x) 2) : EReal) < val_main_values p w b C (ix3 n (at_ y x) 1)) :
    (W4 m ρ c (Proc.devRef .tc main_v6) : Vec Ideal S8x1x56x56 .f32) (ix4 n 0 y x) = val_main_v49 p w b C (ix4 n 0 y x) := by
  obtain ⟨N, V, σ, hN, hV, hs, hm, hj⟩ := chosen p w b C hp hw hC n (at_ y x)
    (finite_of_apart p w b C hp hw hC n (at_ y x) h1 h2)
  have d1 : away N (V (σ 0)) < away N (V (σ 1)) := by
    rw [hj, hj, EReal.coe_lt_coe_iff] at h1
    exact neg_lt_neg_iff.mp h1
  have d2 : away N (V (σ 1)) < away N (V (σ 2)) := by
    rw [hj, hj, EReal.coe_lt_coe_iff] at h2
    exact neg_lt_neg_iff.mp h2
  subst ep ew eb eC
  rw [score_result m ρ c n y x (apart_of hV hs hm d1 d2) N hN.symm, root_coe, root_coe, root_coe,
    v49_at _ _ _ _ n y x (at_ y x) rfl (fun j => away N (V (σ ⟨j.val, by omega⟩))) hj d1.le (d1.trans d2).le]
  rfl

/-- A pixel at distance zero from a centroid has the score zero in both, whatever the bias and the centroids. -/
theorem score_met (m : (ℓ : Loc nD τ sig) → Buf (Elt Ideal) ℓ) (ρ : Dev nD → PrngReg) (c : Dev nD)
    (p : Vec Ideal S1x8x1792x56x56 .f32) (w : Vec Ideal S112x1792 .f32) (b : Vec Ideal S112 .f32) (C : Vec Ideal S112x3136 .f32)
    (ep : m ((c.tc : Thread nD τ).loc main_arg0) = p) (ew : m ((c.tc : Thread nD τ).loc main_arg1) = w)
    (eb : m ((c.tc : Thread nD τ).loc main_arg2) = b) (eC : m ((c.tc : Thread nD τ).loc main_arg3) = C)
    (hp : AllReal p) (hw : AllReal w) (n : Fin 8) (y x : Fin 56)
    (h0 : (val_main_values p w b C (ix3 n (at_ y x) 0) : EReal) = 0) :
    (W4 m ρ c (Proc.devRef .tc main_v6) : Vec Ideal S8x1x56x56 .f32) (ix4 n 0 y x) = val_main_v49 p w b C (ix4 n 0 y x) := by
  obtain ⟨σ, -, -, hj⟩ := top_at (val_main_v29 p w b C) n (at_ y x)
  have e : (val_main_values p w b C (ix3 n (at_ y x) 0) : EReal) = -val_main_v28 p w b C (ix3 n (at_ y x) (σ 0)) := hj 0
  rw [h0] at e
  have hz : (val_main_v28 p w b C (ix3 n (at_ y x) (σ 0)) : EReal) = 0 := EReal.neg_eq_zero_iff.mp e.symm
  rw [v28_read, root_zero] at hz
  have hphi : (fun o => (val_main_v11 p w b (ix3 n (at_ y x) o) : EReal)) = phi p w b n (at_ y x) :=
    funext fun o => (phi_eq p w b hp hw n (at_ y x) o).1.symm
  have hphi' : ∀ o, (val_main_v11 p w b (ix3 n (at_ y x) o) : EReal) = phi p w b n (at_ y x) o := congrFun hphi
  simp only [hphi'] at hz
  obtain ⟨a, u, v, ha, hs⟩ := score_first m ρ c n y x
  subst ep ew eb eC
  rw [hs, v49_read _ _ _ _ n y x (at_ y x) rfl _ (fun _ => rfl), h0, neg_zero, mul_zero]
  have hr := (root_zero _).mpr ((add_le_add_left (ha (σ 0)) _).trans ((val_le _ _ (σ 0) _).trans hz))
  unfold root
  rw [hr, soft_zero]

end Cert.KernelIdeal.Score

end
-- ==== Proof.Given.lean ====
/- What the two preconditions and the mask say of the argument arrays. -/
module

public import Idealize.ShloMosaic.Lib.ReduceAll
public import Idealize.ShloMosaic.Lib.Pointwise
public import proofs.«01_k».proof.Pre_finite_and_apart
public import proofs.«01_k».proof.Pre_finite_inputs
public import proofs.«01_k».proof.On_settled
public import proofs.«01_k».proof.Proof.ScoreEq

@[expose] public section

set_option maxRecDepth 16384

noncomputable section

namespace Cert.Given

open Idealize.ShloMosaic Cert.ReferenceIdeal Cert.ReferenceIdeal.Score Cert.ReferenceIdeal.Read

/-- The shape relations that the precondition's operations take. -/
theorem facts : Cert.Pre_finite_and_apart.Facts := by
  constructor <;> decide

/-- The shape relations that the weaker precondition's operations take. -/
theorem facts_inputs : Cert.Pre_finite_inputs.Facts := by
  constructor <;> decide

/-- The shape relations that the mask's operations take. -/
theorem facts_settled : Cert.On_settled.Facts := by
  constructor <;> decide

/-- A number whose magnitude is below `+∞` is real. -/
theorem real_of_below {x : EReal} (h : BitVec.ofBool (decide (max x (-x) < Ideal.ofBits FTy.f32 0x7F800000#32)) = 1#1) :
    ∃ r : ℝ, x = (r : EReal) := by
  rw [Cert.KernelIdeal.Score.inf_word] at h
  have h' : max x (-x) < ⊤ := by
    by_contra hc
    rw [decide_eq_false hc] at h
    exact absurd h (by decide)
  induction x with
  | bot => simp at h'
  | coe r => exact ⟨r, rfl⟩
  | top => simp at h'

/-- An array all of whose magnitudes are below `+∞` is an array of real numbers. -/
theorem all_real {s : Shape} {axes : List (Fin s.rank)} (x : FVec Ideal s .f32) (hb : Cert.Pre_finite_and_apart.S_.BroadcastsInDim s (![] : Fin 0 → Fin s.rank))
    (hr : s.ReducesTo axes Cert.Pre_finite_and_apart.S_) (hu : 0 < Cert.Pre_finite_and_apart.S_.numel)
    (init : Cert.Pre_finite_and_apart.S_.Idx → BitVec 1)
    (h : Host.reduce IntOp.andi (cmpf .olt (Host.absf x) (broadcastInDim s ![] hb (constant Cert.Pre_finite_and_apart.S_ .f32 0x7F800000#32)))
      init hr hu ix0 = 1#1) : AllReal x := by
  haveI : Subsingleton Cert.Pre_finite_and_apart.S_.Idx := ⟨fun a b => funext fun i => i.elim0⟩
  intro i
  exact real_of_below (Host.reduce_andi_all _ _ _ _ _ h i)

/-- A comparison of two real arrays that holds everywhere. -/
theorem greater_of {x y : EReal} (h : FloatOps.cmpf (F := Ideal) (φ := .f32) .ogt x y = 1#1) : y < x := by
  by_contra hc
  have : FloatOps.cmpf (F := Ideal) (φ := .f32) .ogt x y = BitVec.ofBool (decide (y < x)) := rfl
  rw [this, decide_eq_false hc] at h
  exact absurd h (by decide)

/-- Where slices `i` and `j` of an array of three numbers per pixel compare as greater, the numbers do. -/
theorem greater_at (v : Vec Ideal S8x3136x3 .f32) (i j : Nat) (hi : i < 3) (hj : j < 3)
    (h1 : Cert.Pre_finite_and_apart.S8x3136x3.Slices ![0, 0, i] Cert.Pre_finite_and_apart.S8x3136x1)
    (h2 : Cert.Pre_finite_and_apart.S8x3136x3.Slices ![0, 0, j] Cert.Pre_finite_and_apart.S8x3136x1)
    (h3 : Cert.Pre_finite_and_apart.S8x3136x1.ShapeCasts Cert.Pre_finite_and_apart.S8x3136) (n : Fin 8) (q : Fin 3136)
    (e : cmpf (F := Ideal) (φ := .f32) .ogt
      (shapeCast Cert.Pre_finite_and_apart.S8x3136 (extractStridedSlice Cert.Pre_finite_and_apart.S8x3136x1 ![0, 0, i] v h1) h3)
      (shapeCast Cert.Pre_finite_and_apart.S8x3136 (extractStridedSlice Cert.Pre_finite_and_apart.S8x3136x1 ![0, 0, j] v h2) h3)
      (ix2 n q) = 1#1) : (v (ix3 n q ⟨j, hj⟩) : EReal) < v (ix3 n q ⟨i, hi⟩) := by
  have e' := greater_of e
  have r : ∀ (k : Nat) (hk : k < 3) (h : Cert.Pre_finite_and_apart.S8x3136x3.Slices ![0, 0, k] Cert.Pre_finite_and_apart.S8x3136x1),
      shapeCast Cert.Pre_finite_and_apart.S8x3136 (extractStridedSlice Cert.Pre_finite_and_apart.S8x3136x1 ![0, 0, k] v h) h3 (ix2 n q)
        = v (ix3 n q ⟨k, hk⟩) := by
    intro k hk h
    pointwise
  rw [r i hi, r j hj] at e'
  exact e'

/-- The precondition, read: finite features, weights and centroids, and at each pixel three kept distances that are three
    different numbers. -/
theorem read_apart (p : Vec Ideal S1x8x1792x56x56 .f32) (w : Vec Ideal S112x1792 .f32) (b : Vec Ideal S112 .f32)
    (C : Vec Ideal S112x3136 .f32)
    (h : @Cert.Pre_finite_and_apart.fn facts Ideal _ p w b C = fun _ => 1#1) :
    AllReal p ∧ AllReal w ∧ AllReal C ∧ ∀ (n : Fin 8) (q : Fin 3136),
      ((val_main_values p w b C (ix3 n q 1) : EReal) < val_main_values p w b C (ix3 n q 0))
      ∧ ((val_main_values p w b C (ix3 n q 2) : EReal) < val_main_values p w b C (ix3 n q 1)) := by
  have h0 := congrFun h ix0
  unfold Cert.Pre_finite_and_apart.fn Cert.Pre_finite_and_apart.fn_part1 Cert.Pre_finite_and_apart.fn_part2 at h0
  dsimp only at h0
  obtain ⟨hf, ha⟩ := IntOp.andi_eq_one.mp h0
  obtain ⟨hf, hC⟩ := IntOp.andi_eq_one.mp hf
  obtain ⟨hp, hw⟩ := IntOp.andi_eq_one.mp hf
  obtain ⟨h1, h2⟩ := IntOp.andi_eq_one.mp ha
  haveI : Subsingleton Cert.Pre_finite_and_apart.S_.Idx := ⟨fun a b => funext fun i => i.elim0⟩
  have g1 := Host.reduce_andi_all _ _ _ _ _ h1
  have g2 := Host.reduce_andi_all _ _ _ _ _ h2
  refine ⟨all_real p _ _ _ _ hp, all_real w _ _ _ _ hw, all_real C _ _ _ _ hC, fun n q => ⟨?_, ?_⟩⟩
  · exact greater_at (val_main_values p w b C) 0 1 (by omega) (by omega) _ _ _ n q (g1 (ix2 n q))
  · exact greater_at (val_main_values p w b C) 1 2 (by omega) (by omega) _ _ _ n q (g2 (ix2 n q))

/-- The weaker precondition, read: finite features and weights. -/
theorem read_inputs (p : Vec Ideal S1x8x1792x56x56 .f32) (w : Vec Ideal S112x1792 .f32) (b : Vec Ideal S112 .f32)
    (C : Vec Ideal S112x3136 .f32)
    (h : @Cert.Pre_finite_inputs.fn facts_inputs Ideal _ p w b C = fun _ => 1#1) : AllReal p ∧ AllReal w := by
  have h0 := congrFun h ix0
  unfold Cert.Pre_finite_inputs.fn at h0
  dsimp only at h0
  obtain ⟨hp, hw⟩ := IntOp.andi_eq_one.mp h0
  exact ⟨all_real p _ _ _ _ hp, all_real w _ _ _ _ hw⟩

/-- A mask over pixels, laid out as pictures with one channel. -/
theorem picture_at (g : IVec Cert.On_settled.S8x3136 1) (h1 : Cert.On_settled.S8x3136.ShapeCasts Cert.On_settled.S8x56x56)
    (h2 : Cert.On_settled.S8x56x56.BroadcastsInDim Cert.On_settled.S8x1x56x56 (![0, 2, 3] : Fin 3 → Fin Cert.On_settled.S8x1x56x56.rank))
    (n : Fin 8) (y x : Fin 56) :
    broadcastInDim Cert.On_settled.S8x1x56x56 ![0, 2, 3] h2 (shapeCast Cert.On_settled.S8x56x56 g h1) (ix4 n 0 y x)
      = g (ix2 n (Cert.KernelIdeal.Score.at_ y x)) := by
  pointwise
  congr 2
  exact Fin.ext (by unfold Cert.KernelIdeal.Score.at_; simp only; omega)

/-- One truth value for all pixels. -/
theorem everywhere_at (g : IVec Cert.On_settled.S_ 1)
    (h : Cert.On_settled.S_.BroadcastsInDim Cert.On_settled.S8x3136 (![] : Fin 0 → Fin Cert.On_settled.S8x3136.rank)) (n : Fin 8) (q : Fin 3136) :
    broadcastInDim Cert.On_settled.S8x3136 ![] h g (ix2 n q) = g ix0 := by
  pointwise

/-- Where the first slice of an array of three numbers per pixel compares as equal to zero, it is zero. -/
theorem zero_at (v : Vec Ideal S8x3136x3 .f32)
    (h1 : Cert.On_settled.S8x3136x3.Slices ![0, 0, 0] Cert.On_settled.S8x3136x1)
    (h3 : Cert.On_settled.S8x3136x1.ShapeCasts Cert.On_settled.S8x3136)
    (h4 : Cert.On_settled.S_.BroadcastsInDim Cert.On_settled.S8x3136 (![] : Fin 0 → Fin Cert.On_settled.S8x3136.rank)) (n : Fin 8) (q : Fin 3136)
    (e : cmpf (F := Ideal) (φ := .f32) .oeq
      (shapeCast Cert.On_settled.S8x3136 (extractStridedSlice Cert.On_settled.S8x3136x1 ![0, 0, 0] v h1) h3)
      (broadcastInDim Cert.On_settled.S8x3136 ![] h4 (constant Cert.On_settled.S_ .f32 0x00000000#32)) (ix2 n q) = 1#1) :
    (v (ix3 n q 0) : EReal) = 0 := by
  have r : shapeCast Cert.On_settled.S8x3136 (extractStridedSlice Cert.On_settled.S8x3136x1 ![0, 0, 0] v h1) h3 (ix2 n q)
      = v (ix3 n q 0) := by
    pointwise
  have e' : BitVec.ofBool (decide ((shapeCast Cert.On_settled.S8x3136 (extractStridedSlice Cert.On_settled.S8x3136x1 ![0, 0, 0] v h1) h3
      (ix2 n q) : EReal) = Ideal.ofBits FTy.f32 0x00000000#32)) = 1#1 := e
  rw [r, zero_word] at e'
  by_contra hc
  rw [decide_eq_false hc] at e'
  exact absurd e' (by decide)

/-- The mask over the scores, read: the pixel is at distance zero from a centroid, or the centroids are finite and its three
    kept distances are three different numbers. -/
theorem read_settled (p : Vec Ideal S1x8x1792x56x56 .f32) (w : Vec Ideal S112x1792 .f32) (b : Vec Ideal S112 .f32)
    (C : Vec Ideal S112x3136 .f32) (n : Fin 8) (y x : Fin 56)
    (h : (@Cert.On_settled.fn facts_settled Ideal _ p w b C).1 (ix4 n 0 y x) = 1#1) :
    (val_main_values p w b C (ix3 n (Cert.KernelIdeal.Score.at_ y x) 0) : EReal) = 0
    ∨ (AllReal C
      ∧ ((val_main_values p w b C (ix3 n (Cert.KernelIdeal.Score.at_ y x) 1) : EReal)
          < val_main_values p w b C (ix3 n (Cert.KernelIdeal.Score.at_ y x) 0))
      ∧ ((val_main_values p w b C (ix3 n (Cert.KernelIdeal.Score.at_ y x) 2) : EReal)
          < val_main_values p w b C (ix3 n (Cert.KernelIdeal.Score.at_ y x) 1))) := by
  unfold Cert.On_settled.fn Cert.On_settled.fn_part1 Cert.On_settled.fn_part2 at h
  dsimp only at h
  have h' := (picture_at _ _ _ n y x).symm.trans h
  rcases IntOp.ori_eq_one.mp h' with h0 | h0
  · exact Or.inl (zero_at (val_main_values p w b C) _ _ _ n _ h0)
  · obtain ⟨ha, hC⟩ := IntOp.andi_eq_one.mp h0
    obtain ⟨h1, h2⟩ := IntOp.andi_eq_one.mp ha
    refine Or.inr ⟨all_real C _ _ _ _ ((everywhere_at _ _ n _).symm.trans hC), ?_, ?_⟩
    · exact greater_at (val_main_values p w b C) 0 1 (by omega) (by omega) _ _ _ n _ h1
    · exact greater_at (val_main_values p w b C) 1 2 (by omega) (by omega) _ _ _ n _ h2

end Cert.Given

end
-- ==== Proof.KernelRun.lean ====
/- The run of the kernel program with the contents it ends with: both result arrays at the contents after the last host
   operations, the argument arrays unchanged. The launch's set-up is the frame's; only what is read off the last state
   differs. -/
module

public import proofs.«01_k».proof.Proof.Gen.KernelIdeal.Frame

@[expose] public section

set_option maxRecDepth 16384

noncomputable section

namespace Cert.KernelIdeal.Ends

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of the kernel program ends with its two result arrays at the last boundary's contents and its
    arguments as they were. -/
theorem run : θ_run defs (onTc (τ := τ) (main (F := F))) ⟨m, fun _ => 0, ρ⟩ (fun r => ∀ c : Dev nD,
      r.2.mem ((c.tc : Thread nD τ).loc main_v6) = W4 m ρ c (Proc.devRef .tc main_v6)
      ∧ r.2.mem ((c.tc : Thread nD τ).loc main_v7) = W4 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => fun c =>
      ⟨h c _ (mem_uc main_v6 (by decide)), h c _ (mem_uc main_v7 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.Ends

end
-- ==== Proof.Meet.lean ====
/- The two results of the kernel, as arrays, against those of the reference. -/
module

public import proofs.«01_k».proof.Proof.KernelRun
public import proofs.«01_k».proof.Proof.ScoreEq
public import proofs.«01_k».proof.Proof.Gen.ReferenceIdeal.Run

@[expose] public section

set_option maxRecDepth 16384

noncomputable section

namespace Cert.Meet

open Idealize.ShloMosaic Idealize.SL.Sem Cert.ReferenceIdeal Cert.ReferenceIdeal.Read Cert.ReferenceIdeal.Score

/-- On device `c` the memory holds the four argument arrays named. -/
structure Agree (m : (ℓ : Loc KernelIdeal.nD KernelIdeal.τ KernelIdeal.sig) → Buf (Elt Ideal) ℓ) (c : Dev KernelIdeal.nD)
    (p : Vec Ideal S1x8x1792x56x56 .f32) (w : Vec Ideal S112x1792 .f32) (b : Vec Ideal S112 .f32) (C : Vec Ideal S112x3136 .f32) : Prop where
  p_eq : m ((c.tc : Thread KernelIdeal.nD KernelIdeal.τ).loc KernelIdeal.main_arg0) = p
  w_eq : m ((c.tc : Thread KernelIdeal.nD KernelIdeal.τ).loc KernelIdeal.main_arg1) = w
  b_eq : m ((c.tc : Thread KernelIdeal.nD KernelIdeal.τ).loc KernelIdeal.main_arg2) = b
  C_eq : m ((c.tc : Thread KernelIdeal.nD KernelIdeal.τ).loc KernelIdeal.main_arg3) = C

/-- On finite features and weights the kernel's descriptors are the reference's, at every index. -/
theorem descriptors_meet {m : (ℓ : Loc KernelIdeal.nD KernelIdeal.τ KernelIdeal.sig) → Buf (Elt Ideal) ℓ} {c : Dev KernelIdeal.nD}
    {p : Vec Ideal S1x8x1792x56x56 .f32} {w : Vec Ideal S112x1792 .f32} {b : Vec Ideal S112 .f32} {C : Vec Ideal S112x3136 .f32}
    (ρ : Dev KernelIdeal.nD → PrngReg) (h : Agree m c p w b C) (hp : AllReal p) (hw : AllReal w) :
    (KernelIdeal.Gen.W4 m ρ c (Proc.devRef .tc KernelIdeal.main_v7) : Vec Ideal S8x3136x112 .f32) = val_main_v11 p w b := by
  obtain ⟨rfl, rfl, rfl, rfl⟩ := h
  funext (i : S8x3136x112.Idx)
  rw [eq_ix3 i]
  exact (KernelIdeal.Phi.phi_result m ρ c (i 0) (i 1) (i 2)).trans (ReferenceIdeal.Score.phi_eq _ _ _ hp hw (i 0) (i 1) (i 2)).1

/-- A score's index is a picture, its one channel, a row and a column. -/
theorem score_index (i : S8x1x56x56.Idx) : i = ix4 (i 0) 0 (i 2) (i 3) := by
  rw [eq_ix4 i]
  exact congrArg (fun z => ix4 (i 0) z (i 2) (i 3)) (Subsingleton.elim (α := Fin 1) _ _)

/-- On finite features, weights and centroids whose three least distances at every pixel are three different numbers, the kernel's scores are the
    reference's. -/
theorem scores_meet {m : (ℓ : Loc KernelIdeal.nD KernelIdeal.τ KernelIdeal.sig) → Buf (Elt Ideal) ℓ} {c : Dev KernelIdeal.nD}
    {p : Vec Ideal S1x8x1792x56x56 .f32} {w : Vec Ideal S112x1792 .f32} {b : Vec Ideal S112 .f32} {C : Vec Ideal S112x3136 .f32}
    (ρ : Dev KernelIdeal.nD → PrngReg) (h : Agree m c p w b C) (hp : AllReal p) (hw : AllReal w) (hC : AllReal C)
    (ha : ∀ (n : Fin 8) (q : Fin 3136),
      ((val_main_values p w b C (ix3 n q 1) : EReal) < val_main_values p w b C (ix3 n q 0))
      ∧ ((val_main_values p w b C (ix3 n q 2) : EReal) < val_main_values p w b C (ix3 n q 1))) :
    (KernelIdeal.Gen.W4 m ρ c (Proc.devRef .tc KernelIdeal.main_v6) : Vec Ideal S8x1x56x56 .f32) = val_main_v49 p w b C := by
  funext (i : S8x1x56x56.Idx)
  rw [score_index i]
  exact KernelIdeal.Score.score_eq m ρ c p w b C h.p_eq h.w_eq h.b_eq h.C_eq hp hw hC (i 0) (i 2) (i 3) (ha _ _).1 (ha _ _).2

/-- The reference runs, and leaves its scores, its descriptors and its unchanged arguments. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v49)
          = val_main_v49 (F := Ideal) (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_v11)
          = val_main_v11 (F := Ideal) (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun r h c => ⟨(h c).1.trans (val_main_v49_eq m c), (h c).2.1.trans (val_main_v11_eq _ _ _), (h c).2.2⟩)
    (Cert.ReferenceIdeal.Value.run m ρ)

/-- The reference leaves its arguments unchanged and every semaphore at zero. -/
theorem reference_frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun r h => ⟨fun c => (h c).2.2, sem_eq_zero_of_no_sems (by decide) r.2⟩) (reference_run m ρ)

end Cert.Meet

end
-- ==== Proof.lean ====
/- The proof of the claims about the pooled descriptors and the score of the three nearest centroids. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Given
public import proofs.«01_k».proof.Proof.Meet

@[expose] public section

set_option maxRecDepth 16384

noncomputable section

namespace Cert.Proof

open Idealize.ShloMosaic Idealize.SL.Sem

/-- On finite features, weights and centroids whose three least distances are three different numbers at every pixel, kernel
    and reference end with the same scores and the same descriptors. -/
theorem algebraic_apart : @Cert.algebraic_KernelIdeal_ReferenceIdeal_pre_finite_and_apart
    KernelIdeal.Gen.facts ReferenceIdeal.Gen.facts Given.facts := by
  intro m g m' g' hpre hagree
  refine ⟨fun c => KernelIdeal.Gen.W4 m g c (Proc.devRef .tc KernelIdeal.main_v6),
    fun c => KernelIdeal.Gen.W4 m g c (Proc.devRef .tc KernelIdeal.main_v7), KernelIdeal.Ends.run m g, ?_⟩
  refine (θ_run _ _ _).mono (fun r h c => ?_) (Meet.reference_run m' g')
  obtain ⟨h0, h1, h2, h3⟩ := hagree c
  obtain ⟨hp, hw, hC, ha⟩ := Given.read_apart _ _ _ _ (hpre c)
  obtain ⟨hs, hd, hrest⟩ := h c
  rw [h0, h1, h2, h3] at hs
  rw [h0, h1, h2] at hd
  exact ⟨hs.trans (Meet.scores_meet g ⟨rfl, rfl, rfl, rfl⟩ hp hw hC ha).symm,
    hd.trans (Meet.descriptors_meet g ⟨rfl, rfl, rfl, rfl⟩ hp hw).symm, hrest⟩

/-- On finite features and weights alone, kernel and reference end with the same descriptors, and with the same score at every
    pixel that is at distance zero from a centroid or, the centroids being finite, has three least distances that are three
    different numbers. -/
theorem algebraic_settled : @Cert.algebraic_KernelIdeal_ReferenceIdeal_on_settled_pre_finite_inputs
    KernelIdeal.Gen.facts ReferenceIdeal.Gen.facts Given.facts_inputs Given.facts_settled := by
  intro m g m' g' hpre hagree
  refine ⟨fun c => KernelIdeal.Gen.W4 m g c (Proc.devRef .tc KernelIdeal.main_v6),
    fun c => KernelIdeal.Gen.W4 m g c (Proc.devRef .tc KernelIdeal.main_v7), ?_, ?_⟩
  · exact (θ_run _ _ _).mono (fun r h c => ⟨fun i _ => congrFun (h c).1 i, fun i _ => congrFun (h c).2.1 i, (h c).2.2⟩)
      (KernelIdeal.Ends.run m g)
  refine (θ_run _ _ _).mono (fun r h c => ?_) (Meet.reference_run m' g')
  obtain ⟨h0, h1, h2, h3⟩ := hagree c
  obtain ⟨hp, hw⟩ := Given.read_inputs _ _ _ _ (hpre c)
  obtain ⟨hs, hd, hrest⟩ := h c
  rw [h0, h1, h2, h3] at hs
  rw [h0, h1, h2] at hd
  refine ⟨fun i hi => ?_, fun i _ => congrFun (hd.trans (Meet.descriptors_meet g ⟨rfl, rfl, rfl, rfl⟩ hp hw).symm) i, hrest⟩
  refine (congrFun hs i).trans ?_
  rw [Meet.score_index i] at hi ⊢
  rcases Given.read_settled _ _ _ _ _ _ _ hi with hz | ⟨hC, ha, hb⟩
  · exact (KernelIdeal.Score.score_met m g c _ _ _ _ rfl rfl rfl rfl hp hw _ _ _ hz).symm
  · exact (KernelIdeal.Score.score_eq m g c _ _ _ _ rfl rfl rfl rfl hp hw hC _ _ _ ha hb).symm

/-- Everything claimed. -/
theorem claim : Cert.Claim :=
  ⟨Kernel.Gen.facts, KernelIdeal.Gen.facts, ReferenceIdeal.Gen.facts, Given.facts, Given.facts_inputs, Given.facts_settled,
    fun m ρ _ => Kernel.Gen.frame m ρ,
    fun m ρ _ => KernelIdeal.Gen.frame m ρ,
    fun m ρ _ => KernelIdeal.Gen.frame m ρ,
    fun m ρ _ => KernelIdeal.Gen.frame m ρ,
    fun m ρ _ => Meet.reference_frame m ρ,
    fun m ρ _ => Meet.reference_frame m ρ,
    fun m ρ _ => Meet.reference_frame m ρ,
    ⟨IdealRules.named_const.statement KernelIdeal.κ "ninth" .f32 0x3DE38E39#32 _ rfl,
      IdealRules.named_const.statement KernelIdeal.κ "big" .f32 0x7149F2CA#32 _ rfl⟩,
    algebraic_apart, algebraic_settled⟩

end Cert.Proof

end
